-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.blockN ⟨2, ![2048, 8192]⟩ ⟨2, ![4096, 8192]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S_ : Shape := ⟨0, ![]⟩
abbrev S1 : Shape := ⟨1, ![1]⟩
abbrev S2 : Shape := ⟨1, ![2]⟩
abbrev S2x2048x4096 : Shape := ⟨3, ![2, 2048, 4096]⟩
abbrev S2048x4096 : Shape := ⟨2, ![2048, 4096]⟩
abbrev S2048x1024 : Shape := ⟨2, ![2048, 1024]⟩
abbrev S1024x1024 : Shape := ⟨2, ![1024, 1024]⟩
abbrev S3 : Shape := ⟨1, ![3]⟩
abbrev S2x4 : Shape := ⟨2, ![2, 4]⟩
abbrev S1x1 : Shape := ⟨2, ![1, 1]⟩
abbrev S1x1024x1024 : Shape := ⟨3, ![1, 1024, 1024]⟩
abbrev S2048x8192 : Shape := ⟨2, ![2048, 8192]⟩
abbrev S1x512x4096 : Shape := ⟨3, ![1, 512, 4096]⟩
abbrev S512x4096 : Shape := ⟨2, ![512, 4096]⟩

abbrev nBuf : Space → Nat
  | .hbm => 20
  | .vmem => 12
  | .smem => 1
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S2x2048x4096, .bf16⟩
  | .hbm, ⟨17, _⟩ => ⟨S2048x4096, .bf16⟩
  | .hbm, ⟨18, _⟩ => ⟨S2048x4096, .bf16⟩
  | .hbm, ⟨19, _⟩ => ⟨S2048x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x512x4096, .bf16⟩
  | .local _ .vmem, ⟨9, _⟩ => ⟨S1x512x4096, .bf16⟩
  | .local _ .vmem, ⟨10, _⟩ => ⟨S512x4096, .f32⟩
  | .local _ .vmem, ⟨11, _⟩ => ⟨S512x4096, .f32⟩
  | .local _ .smem, ⟨0, _⟩ => ⟨S2, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v13 : Ref sig .tc := ⟨.hbm, 19, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 39
abbrev cc1_sem0_1 : DmaSem sig := 40
abbrev cc1_sem1_0 : DmaSem sig := 41
abbrev cc1_sem1_1 : DmaSem sig := 42
abbrev barrier0 : Sem sig := 0

abbrev nD : Nat := 4
abbrev τ : Topo := Topo.v7x

variable {F : FTy → Type} [FloatOps F]

abbrev grid0 : Pipeline.Grid := ⟨3, ![4, 4, 2], ![false, false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_1 : BitVec 32 := 0#32
  let v5 : BitVec 1 := Scalar.cmpi .eq arg1 c0_i32_1
  let v6 : BitVec 1 := Scalar.andi v4 v5
  let arg2 : BitVec 32 := BitVec.ofNat 32 (i 2).val
  let c0_i32_2 : BitVec 32 := 0#32
  let v7 : BitVec 1 := Scalar.cmpi .eq arg2 c0_i32_2
  let v8 : BitVec 1 := Scalar.andi v6 v7
  let v9 : BitVec 32 := Scalar.extui v8
  let c0_i32_3 : BitVec 32 := 0#32
  let v10 : BitVec 1 := Scalar.cmpi .ne v9 c0_i32_3
  v10

def k0_dev1 (v0 : BitVec 32) (v1 : BitVec 32) : Nat :=
  let c0_i32_20 : BitVec 32 := 0#32
  let c1_i32 : BitVec 32 := 1#32
  let v2 : BitVec 32 := Scalar.subi c1_i32 v0
  let c2_i32 : BitVec 32 := 2#32
  let v35 : BitVec 32 := Scalar.muli v2 c2_i32
  let v36 : BitVec 32 := Scalar.addi c0_i32_20 v35
  let c1_i32_21 : BitVec 32 := 1#32
  let v37 : BitVec 32 := Scalar.muli v1 c1_i32_21
  let v38 : BitVec 32 := Scalar.addi v36 v37
  v38.toNat

def k0_dev2 (v0 : BitVec 32) (v1 : BitVec 32) : Nat :=
  let c0_i32_24 : BitVec 32 := 0#32
  let c2_i32_23 : BitVec 32 := 2#32
  let v39 : BitVec 32 := Scalar.muli v0 c2_i32_23
  let v40 : BitVec 32 := Scalar.addi c0_i32_24 v39
  let c1_i32_0 : BitVec 32 := 1#32
  let v3 : BitVec 32 := Scalar.subi c1_i32_0 v1
  let c1_i32_25 : BitVec 32 := 1#32
  let v41 : BitVec 32 := Scalar.muli v3 c1_i32_25
  let v42 : BitVec 32 := Scalar.addi v40 v41
  v42.toNat
def k0_cond3 (i : grid0.Coords) : BitVec 1 :=
  let arg2 : BitVec 32 := BitVec.ofNat 32 (i 2).val
  let c1_i32_14 : BitVec 32 := 1#32
  let v24 : BitVec 1 := Scalar.cmpi .eq arg2 c1_i32_14
  let v25 : BitVec 32 := Scalar.extui v24
  let c0_i32_15 : BitVec 32 := 0#32
  let v26 : BitVec 1 := Scalar.cmpi .ne v25 c0_i32_15
  v26

def k0_cond4 (i : grid0.Coords) : BitVec 1 :=
  let arg0 : BitVec 32 := BitVec.ofNat 32 (i 0).val
  let c2_i32_21 : BitVec 32 := 2#32
  let v38 : BitVec 1 := Scalar.cmpi .slt arg0 c2_i32_21
  let v39 : BitVec 32 := Scalar.extui v38
  let c0_i32_22 : BitVec 32 := 0#32
  let v40 : BitVec 1 := Scalar.cmpi .ne v39 c0_i32_22
  v40

def k0_off1 (i : grid0.Coords) : Fin 2 → Nat :=
  let arg0 : BitVec 32 := BitVec.ofNat 32 (i 0).val
  let c1024_i32 : BitVec 32 := 1024#32
  let v34 : BitVec 32 := Scalar.muli arg0 c1024_i32
  let arg1 : BitVec 32 := BitVec.ofNat 32 (i 1).val
  let c1024_i32_20 : BitVec 32 := 1024#32
  let v37 : BitVec 32 := Scalar.muli arg1 c1024_i32_20
  ![v34.toNat, v37.toNat]
def k0_off2 (i : grid0.Coords) : Fin 2 → Nat :=
  let arg0 : BitVec 32 := BitVec.ofNat 32 (i 0).val
  let arg1 : BitVec 32 := BitVec.ofNat 32 (i 1).val
  ![arg0.toNat, arg1.toNat]
def k0_dev3 (v0 : BitVec 32) (v1 : BitVec 32) : Nat :=
  let c0_i32_32 : BitVec 32 := 0#32
  let c1_i32 : BitVec 32 := 1#32
  let v2 : BitVec 32 := Scalar.subi c1_i32 v0
  let c2_i32_31 : BitVec 32 := 2#32
  let v55 : BitVec 32 := Scalar.muli v2 c2_i32_31
  let v56 : BitVec 32 := Scalar.addi c0_i32_32 v55
  let c1_i32_33 : BitVec 32 := 1#32
  let v57 : BitVec 32 := Scalar.muli v1 c1_i32_33
  let v58 : BitVec 32 := Scalar.addi v56 v57
  v58.toNat
def k0_cond5 (i : grid0.Coords) : BitVec 1 :=
  let arg0 : BitVec 32 := BitVec.ofNat 32 (i 0).val
  let c2_i32_23 : BitVec 32 := 2#32
  let v41 : BitVec 1 := Scalar.cmpi .sge arg0 c2_i32_23
  let v42 : BitVec 32 := Scalar.extui v41
  let c0_i32_24 : BitVec 32 := 0#32
  let v43 : BitVec 1 := Scalar.cmpi .ne v42 c0_i32_24
  v43

def k0_off3 (i : grid0.Coords) : Fin 2 → Nat :=
  let arg0 : BitVec 32 := BitVec.ofNat 32 (i 0).val
  let c2_i32_26 : BitVec 32 := 2#32
  let v45 : BitVec 32 := Scalar.subi arg0 c2_i32_26
  let arg1 : BitVec 32 := BitVec.ofNat 32 (i 1).val
  ![v45.toNat, arg1.toNat]
def k0_off4 (i : grid0.Coords) : Fin 2 → Nat :=
  let arg0 : BitVec 32 := BitVec.ofNat 32 (i 0).val
  let c2_i32 : BitVec 32 := 2#32
  let v35 : BitVec 32 := Scalar.subi arg0 c2_i32
  let c1024_i32_19 : BitVec 32 := 1024#32
  let v36 : BitVec 32 := Scalar.muli v35 c1024_i32_19
  let arg1 : BitVec 32 := BitVec.ofNat 32 (i 1).val
  let c1024_i32_20 : BitVec 32 := 1024#32
  let v37 : BitVec 32 := Scalar.muli arg1 c1024_i32_20
  ![v36.toNat, v37.toNat]
def k0_off5 (i : grid0.Coords) : Fin 3 → Nat :=
  let c0_i32_38 : BitVec 32 := 0#32
  let arg0 : BitVec 32 := BitVec.ofNat 32 (i 0).val
  let c2_i32 : BitVec 32 := 2#32
  let v35 : BitVec 32 := Scalar.subi arg0 c2_i32
  let c1024_i32_19 : BitVec 32 := 1024#32
  let v36 : BitVec 32 := Scalar.muli v35 c1024_i32_19
  let arg1 : BitVec 32 := BitVec.ofNat 32 (i 1).val
  let c1024_i32_20 : BitVec 32 := 1024#32
  let v37 : BitVec 32 := Scalar.muli arg1 c1024_i32_20
  ![0, v36.toNat, v37.toNat]
def k0_off6 (i : grid0.Coords) : Fin 3 → Nat :=
  let c1_i32_45 : BitVec 32 := 1#32
  let arg0 : BitVec 32 := BitVec.ofNat 32 (i 0).val
  let c2_i32 : BitVec 32 := 2#32
  let v35 : BitVec 32 := Scalar.subi arg0 c2_i32
  let c1024_i32_19 : BitVec 32 := 1024#32
  let v36 : BitVec 32 := Scalar.muli v35 c1024_i32_19
  let arg1 : BitVec 32 := BitVec.ofNat 32 (i 1).val
  let c1024_i32_20 : BitVec 32 := 1024#32
  let v37 : BitVec 32 := Scalar.muli arg1 c1024_i32_20
  ![1, v36.toNat, v37.toNat]
def k0_dev4 (v0 : BitVec 32) (v1 : BitVec 32) : Nat :=
  let c0_i32_47 : BitVec 32 := 0#32
  let c2_i32_46 : BitVec 32 := 2#32
  let v78 : BitVec 32 := Scalar.muli v0 c2_i32_46
  let v79 : BitVec 32 := Scalar.addi c0_i32_47 v78
  let c1_i32_0 : BitVec 32 := 1#32
  let v3 : BitVec 32 := Scalar.subi c1_i32_0 v1
  let c1_i32_48 : BitVec 32 := 1#32
  let v80 : BitVec 32 := Scalar.muli v3 c1_i32_48
  let v81 : BitVec 32 := Scalar.addi v79 v80
  v81.toNat

def k0_chk1 (i : grid0.Coords) (v0 : BitVec 32) (v1 : BitVec 32) : Prop :=
  (∀ (k0_h1 : k0_cond1 i = 1#1), (k0_dev1 v0 v1) < nD) ∧
  (∀ (k0_h1 : k0_cond1 i = 1#1), (k0_dev2 v0 v1) < nD) ∧
  (∀ (k0_h3 : k0_cond3 i = 1#1), ∀ (k0_h4 : k0_cond4 i = 1#1), (k0_dev3 v0 v1) < nD) ∧
  (∀ (k0_h3 : k0_cond3 i = 1#1), ∀ (k0_h5 : k0_cond5 i = 1#1), (k0_dev4 v0 v1) < nD)
theorem k0_dev1_lt : ∀ (i : grid0.Coords) (v0 : BitVec 32) (v1 : BitVec 32) (k0_hw1 : k0_chk1 i v0 v1), ∀ (k0_h1 : k0_cond1 i = 1#1), (k0_dev1 v0 v1) < nD := fun i v0 v1 k0_hw1 k0_h1 => k0_hw1.1 k0_h1
theorem k0_dev2_lt : ∀ (i : grid0.Coords) (v0 : BitVec 32) (v1 : BitVec 32) (k0_hw1 : k0_chk1 i v0 v1), ∀ (k0_h1 : k0_cond1 i = 1#1), (k0_dev2 v0 v1) < nD := fun i v0 v1 k0_hw1 k0_h1 => k0_hw1.2.1 k0_h1
theorem k0_dev3_lt : ∀ (i : grid0.Coords) (v0 : BitVec 32) (v1 : BitVec 32) (k0_hw1 : k0_chk1 i v0 v1), ∀ (k0_h3 : k0_cond3 i = 1#1), ∀ (k0_h4 : k0_cond4 i = 1#1), (k0_dev3 v0 v1) < nD := fun i v0 v1 k0_hw1 k0_h3 k0_h4 => k0_hw1.2.2.1 k0_h3 k0_h4
theorem k0_dev4_lt : ∀ (i : grid0.Coords) (v0 : BitVec 32) (v1 : BitVec 32) (k0_hw1 : k0_chk1 i v0 v1), ∀ (k0_h3 : k0_cond3 i = 1#1), ∀ (k0_h5 : k0_cond5 i = 1#1), (k0_dev4 v0 v1) < nD := fun i v0 v1 k0_hw1 k0_h3 k0_h5 => k0_hw1.2.2.2 k0_h3 k0_h5

def cc0_transform_0 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1_i32 : BitVec 32 := 1#32
  let v1 : BitVec 32 := Scalar.subi c1_i32 v0
  let c2_i32 : BitVec 32 := 2#32
  let v2 : BitVec 32 := Scalar.muli c2_i32 v1
  let v3 : BitVec 32 := Scalar.addi arg0 v2
  let c4_i32 : BitVec 32 := 4#32
  let c0_i32 : BitVec 32 := 0#32
  let v4 : BitVec 1 := Scalar.cmpi .eq c4_i32 c0_i32
  let c1_i32_0 : BitVec 32 := 1#32
  let v5 : BitVec 32 := Scalar.select v4 c1_i32_0 c4_i32
  let v6 : BitVec 32 := Scalar.remsi v3 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c0_i32_4 : BitVec 32 := 0#32
  ![arg2.toNat, v13.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg1
  let c0_i32 : BitVec 32 := 0#32
  ![arg2.toNat, v2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev grid1 : Pipeline.Grid := ⟨2, ![2, 4], ![false, false]⟩

abbrev pre1 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (inb_S2_S1_1 : ∀ a, (![1] : Fin 1 → Nat) a + S1.size a ≤ S2.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1 : Index := 1#32
  let v1 : BitVec 32 := pf.at 0 (Rect.unit (s := S2) ![1] S1.size inb_S2_S1_1) numel1_S1
  let c1_0 : Index := 1#32
  let v2 : BitVec 32 := pf.at 0 (Rect.unit (s := S2) ![1] S1.size inb_S2_S1_1) numel1_S1
  let c1_i32 : BitVec 32 := 1#32
  let v3 : BitVec 32 := Scalar.subi c1_i32 v2
  let v4 : BitVec 32 := Scalar.select v0 v1 v3
  let c0_i32_1 : BitVec 32 := 0#32
  ![arg1.toNat, v4.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S4096x8192, .f32⟩
  | .hbm, ⟨3, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/-
  The protocol of the kernel's first call, written down: which semaphore cells the four devices talk through, what is
  paid into each, and the one round of each cell.

  Device c stands at (c / 2, c % 2) of the 2x2 mesh; `ox c` is the device at the other first coordinate, `oy c` the one
  at the other second coordinate. Blocks of 1024x1024 are numbered b = 0 … 7, row b / 4 and column b % 4.

    barrier cell of c    1 unit from `ox c`, with it the landing buffer of `ox c` for the first exchange
                         1 unit from `oy c`, with it the landing plane of `oy c` for the second exchange
    sxs b of c           the departure of c's block b to `ox c`: the source block comes back
    sxr b of c           the arrival of the block of `ox c`, at its contents
    sys b of c           the departure of c's finished block b to `oy c`: the source block comes back
    syr b of c           the arrival of the finished block of `oy c`, at its contents
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Algebra and indices -/

/-- One copy of the rounds algebra for the pipelines, one (with duties named by a Boolean) for the exchange, and the
    counters of the copies within a device. -/
abbrev UU : Type := UR sig nD τ × (URounds (GSem nD τ sig) Bool × Counters)

/-- Credits are indexed by a number: 0 for what a core pays itself, 1 for what another device pays. -/
abbrev Ix : Type := ℕ

local notation "𝕄" => MT nD τ sig Ix (Elt F) ℕ UU ℕ

abbrev EP : Emb (UR sig nD τ) (MT nD τ sig Ix (Elt F) ℕ UU ℕ) := embL
def ER : Emb (URounds (GSem nD τ sig) Bool) (MT nD τ sig Ix (Elt F) ℕ UU ℕ) :=
  (Emb.inl : Emb (URounds (GSem nD τ sig) Bool) (URounds (GSem nD τ sig) Bool × Counters)).trans embR
instance ER_landsIn : (ER : Emb (URounds (GSem nD τ sig) Bool) 𝕄).LandsIn (upEmb : UEmb _ 𝕄) := by unfold ER embR; infer_instance

/-! ## The mesh -/

set_option backward.proofsInPublic true in
/-- The device at the other first coordinate. -/
def ox (c : Dev nD) : Dev nD := ⟨(c.val + 2) % 4, Nat.mod_lt _ (by decide)⟩
set_option backward.proofsInPublic true in
/-- The device at the other second coordinate. -/
def oy (c : Dev nD) : Dev nD := ⟨2 * (c.val / 2) + (1 - c.val % 2), by have := c.isLt; simp only [nD] at *; omega⟩

theorem ox_ox (c : Dev nD) : ox (ox c) = c := by revert c; decide
theorem oy_oy (c : Dev nD) : oy (oy c) = c := by revert c; decide
theorem ox_ne (c : Dev nD) : ox c ≠ c := by revert c; decide
theorem oy_ne (c : Dev nD) : oy c ≠ c := by revert c; decide
theorem ox_ne_oy (c : Dev nD) : ox c ≠ oy c := by revert c; decide

def oxE : Dev nD ≃ Dev nD := ⟨ox, ox, ox_ox, ox_ox⟩
def oyE : Dev nD ≃ Dev nD := ⟨oy, oy, oy_oy, oy_oy⟩

/-! ## Semaphores -/

abbrev barS : Sem sig := (SemArray.scalar (sig.barrier 0 rfl) : Sems sig S_).sem

set_option backward.proofsInPublic true in
abbrev sxsS (b : Fin 8) : DmaSem sig := ⟨7 + b.val, by have := b.isLt; show 7 + b.val < 43; omega⟩
set_option backward.proofsInPublic true in
abbrev sxrS (b : Fin 8) : DmaSem sig := ⟨15 + b.val, by have := b.isLt; show 15 + b.val < 43; omega⟩
set_option backward.proofsInPublic true in
abbrev sysS (b : Fin 8) : DmaSem sig := ⟨23 + b.val, by have := b.isLt; show 23 + b.val < 43; omega⟩
set_option backward.proofsInPublic true in
abbrev syrS (b : Fin 8) : DmaSem sig := ⟨31 + b.val, by have := b.isLt; show 31 + b.val < 43; omega⟩

abbrev barCell (c : Dev nD) : GSem nD τ sig := ((c : Thread nD τ), .reg barS)
abbrev sxsCell (c : Dev nD) (b : Fin 8) : GSem nD τ sig := ((c : Thread nD τ), .dma (sxsS b))
abbrev sxrCell (c : Dev nD) (b : Fin 8) : GSem nD τ sig := ((c : Thread nD τ), .dma (sxrS b))
abbrev sysCell (c : Dev nD) (b : Fin 8) : GSem nD τ sig := ((c : Thread nD τ), .dma (sysS b))
abbrev syrCell (c : Dev nD) (b : Fin 8) : GSem nD τ sig := ((c : Thread nD τ), .dma (syrS b))

/-- What a semaphore is for. -/
inductive Role | bar | sxs (b : Fin 8) | sxr (b : Fin 8) | sys (b : Fin 8) | syr (b : Fin 8) | none
  deriving DecidableEq

set_option backward.proofsInPublic true in
def role : SemLoc sig → Role
  | .reg _ => .bar
  | .dma s =>
    if h : 7 ≤ s.val ∧ s.val < 15 then .sxs ⟨s.val - 7, by omega⟩
    else if h : 15 ≤ s.val ∧ s.val < 23 then .sxr ⟨s.val - 15, by omega⟩
    else if h : 23 ≤ s.val ∧ s.val < 31 then .sys ⟨s.val - 23, by omega⟩
    else if h : 31 ≤ s.val ∧ s.val < 39 then .syr ⟨s.val - 31, by omega⟩
    else .none

theorem role_bar : role (.reg barS) = .bar := rfl
theorem role_sxs (b : Fin 8) : role (.dma (sxsS b)) = .sxs b := by revert b; decide
theorem role_sxr (b : Fin 8) : role (.dma (sxrS b)) = .sxr b := by revert b; decide
theorem role_sys (b : Fin 8) : role (.dma (sysS b)) = .sys b := by revert b; decide
theorem role_syr (b : Fin 8) : role (.dma (syrS b)) = .syr b := by revert b; decide

/-! ## Blocks -/

/-- Where block b begins. -/
def off (b : Fin 8) : Fin 2 → ℕ := ![1024 * (b.val / 4), 1024 * (b.val % 4)]
def off3 (p : Fin 2) (b : Fin 8) : Fin 3 → ℕ := ![p.val, 1024 * (b.val / 4), 1024 * (b.val % 4)]
def offS (b : Fin 8) : Fin 2 → ℕ := ![b.val / 4, b.val % 4]

theorem off_inb (b : Fin 8) : ∀ a, off b a + S1024x1024.size a ≤ S2048x4096.size a := by revert b; decide
theorem off3_inb (p : Fin 2) (b : Fin 8) : ∀ a, off3 p b a + S1x1024x1024.size a ≤ S2x2048x4096.size a := by revert p b; decide
theorem offS_inb (b : Fin 8) : ∀ a, offS b a + S1x1.size a ≤ S2x4.size a := by revert b; decide

/-- Block b of the landing buffer, of the staging buffer, and of plane p of the stacked buffer. -/
abbrev rxB (b : Fin 8) : Memref sig .tc .hbm S1024x1024 .bf16 :=
  (Memref.whole main_v12_1).slice (Rect.unit (s := S2048x4096) (off b) S1024x1024.size (off_inb b)) (fun _ => rfl)
abbrev stB (b : Fin 8) : Memref sig .tc .hbm S1024x1024 .bf16 :=
  (Memref.whole main_v12_2).slice (Rect.unit (s := S2048x4096) (off b) S1024x1024.size (off_inb b)) (fun _ => rfl)
abbrev skB (p : Fin 2) (b : Fin 8) : Memref sig .tc .hbm S1024x1024 .bf16 :=
  ((Memref.whole main_v12_0).slice (Rect.unit (s := S2x2048x4096) (off3 p b) S1x1024x1024.size (off3_inb p b)) (fun _ => rfl)).squeeze
    S1024x1024 squeezes_S1x1024x1024_S1024x1024

/-- What the transfer of a block credits. -/
abbrev N : ℕ := (rxB 0).view.dmaCredit
theorem N_pos : 0 < N := View.dmaCredit_pos _ (by decide)
theorem N_rx (b : Fin 8) : (rxB b).view.dmaCredit = N := rfl
theorem N_sk (p : Fin 2) (b : Fin 8) : (skB p b).view.dmaCredit = N := rfl
theorem N_st (b : Fin 8) : (stB b).view.dmaCredit = N := rfl

/-! ## The schedule -/

/-- A block's contents. -/
abbrev Blk (F : FTy → Type) [FloatOps F] : Type := S1024x1024.Idx → Elt F .bf16

-- `X c b`: what c sends in the first exchange; `Q c b`: its finished block, which it sends in the second
variable (X Q : Dev nD → Fin 8 → Blk F)

/-- Some contents of a block. -/
abbrev some' (c : Dev nD) (M : Memref sig .tc .hbm S1024x1024 .bf16) : sProp 𝕄 := iprop(∃ Z, owns (c : Thread nD τ) M fullShare Z)

/-- What comes with the barrier unit from the device d across the first coordinate (`true`) or the second (`false`). -/
def barPay (d : Dev nD) : Bool → sProp 𝕄
  | true => bigSep Finset.univ fun b : Fin 8 => iprop(some' d (rxB b) ∗ reached ER (sxrCell d b) 0)
  | false => bigSep Finset.univ fun b : Fin 8 => iprop(some' d (skB 1 b) ∗ reached ER (syrCell d b) 0)

def pay (c : Dev nD) : Role → Bool → sProp 𝕄
  | .bar, true => barPay (ox c) true
  | .bar, false => barPay (oy c) false
  | .sxs b, _ => some' c (stB b)
  | .sxr b, _ => owns (c : Thread nD τ) (rxB b) fullShare (X (ox c) b)
  | .sys b, _ => owns (c : Thread nD τ) (skB 0 b) fullShare (Q c b)
  | .syr b, _ => owns (c : Thread nD τ) (skB 1 b) fullShare (Q (oy c) b)
  | .none, _ => iprop(emp)

def duty : Role → Finset Bool
  | .bar => {true, false}
  | .none => ∅
  | _ => {true}

def units : Role → ℕ
  | .bar => 1
  | _ => N

theorem units_pos (r : Role) : 0 < units r := by
  cases r <;> first | exact Nat.one_pos | exact N_pos

/-- Every cell runs one round, round 0: two duties of one unit on a barrier, one of a block's credit on the others. -/
def Rd : Rounds.Schedule (GSem nD τ sig) Bool 𝕄 where
  duties g r := if r = 0 ∧ g.1.2 = .tc then duty (role g.2) else ∅
  unitless _ := False
  amount g _ _ := units (role g.2)
  payload g _ d := pay X Q g.1.1 (role g.2) d
  amount_pos g _ _ _ := units_pos _

instance pay_storable (c : Dev nD) (r : Role) (d : Bool) : BI.Storable (upEmb : UEmb _ 𝕄) (pay X Q c r d) := by
  cases r <;> cases d <;> (simp only [pay, barPay]; infer_instance)

instance Rd_storable (g : GSem nD τ sig) (r : ℕ) (d : Bool) : BI.Storable (upEmb : UEmb _ 𝕄) ((Rd X Q).payload g r d) :=
  pay_storable X Q _ _ _

section Tables

variable (c : Dev nD) (b : Fin 8)

theorem duties_at {g : GSem nD τ sig} (h : g.1.2 = .tc) : (Rd X Q).duties g 0 = duty (role g.2) := if_pos ⟨rfl, h⟩
theorem duties_later (g : GSem nD τ sig) : ∀ r, 1 ≤ r → (Rd X Q).duties g r = ∅ := fun r hr => if_neg fun h => by omega

theorem duties_bar : (Rd X Q).duties (barCell c) 0 = {true, false} := duties_at X Q rfl
theorem duties_sxs : (Rd X Q).duties (sxsCell c b) 0 = {true} := by rw [duties_at X Q rfl, role_sxs]; rfl
theorem duties_sxr : (Rd X Q).duties (sxrCell c b) 0 = {true} := by rw [duties_at X Q rfl, role_sxr]; rfl
theorem duties_sys : (Rd X Q).duties (sysCell c b) 0 = {true} := by rw [duties_at X Q rfl, role_sys]; rfl
theorem duties_syr : (Rd X Q).duties (syrCell c b) 0 = {true} := by rw [duties_at X Q rfl, role_syr]; rfl

theorem amount_bar (d : Bool) : (Rd X Q).amount (barCell c) 0 d = 1 := rfl
theorem amount_sxs (d : Bool) : (Rd X Q).amount (sxsCell c b) 0 d = N := by show units (role _) = N; rw [role_sxs]; rfl
theorem amount_sxr (d : Bool) : (Rd X Q).amount (sxrCell c b) 0 d = N := by show units (role _) = N; rw [role_sxr]; rfl
theorem amount_sys (d : Bool) : (Rd X Q).amount (sysCell c b) 0 d = N := by show units (role _) = N; rw [role_sys]; rfl
theorem amount_syr (d : Bool) : (Rd X Q).amount (syrCell c b) 0 d = N := by show units (role _) = N; rw [role_syr]; rfl

theorem payload_bar (d : Bool) : (Rd X Q).payload (barCell c) 0 d = pay X Q c .bar d := rfl
theorem payload_sxs (d : Bool) : (Rd X Q).payload (sxsCell c b) 0 d = some' c (stB b) := by
  show pay X Q c (role _) d = _; rw [role_sxs]; cases d <;> rfl
theorem payload_sxr (d : Bool) : (Rd X Q).payload (sxrCell c b) 0 d = owns (c : Thread nD τ) (rxB b) fullShare (X (ox c) b) := by
  show pay X Q c (role _) d = _; rw [role_sxr]; cases d <;> rfl
theorem payload_sys (d : Bool) : (Rd X Q).payload (sysCell c b) 0 d = owns (c : Thread nD τ) (skB 0 b) fullShare (Q c b) := by
  show pay X Q c (role _) d = _; rw [role_sys]; cases d <;> rfl
theorem payload_syr (d : Bool) : (Rd X Q).payload (syrCell c b) 0 d = owns (c : Thread nD τ) (skB 1 b) fullShare (Q (oy c) b) := by
  show pay X Q c (role _) d = _; rw [role_syr]; cases d <;> rfl

theorem expect_bar : (Rd X Q).expect (barCell c) 0 = 2 := by
  unfold Schedule.expect Schedule.amountOf; rw [duties_bar, Finset.sum_pair (by decide), amount_bar, amount_bar]
theorem expect_sxs : (Rd X Q).expect (sxsCell c b) 0 = N := by
  unfold Schedule.expect Schedule.amountOf; rw [duties_sxs, Finset.sum_singleton, amount_sxs]
theorem expect_sxr : (Rd X Q).expect (sxrCell c b) 0 = N := by
  unfold Schedule.expect Schedule.amountOf; rw [duties_sxr, Finset.sum_singleton, amount_sxr]
theorem expect_sys : (Rd X Q).expect (sysCell c b) 0 = N := by
  unfold Schedule.expect Schedule.amountOf; rw [duties_sys, Finset.sum_singleton, amount_sys]
theorem expect_syr : (Rd X Q).expect (syrCell c b) 0 = N := by
  unfold Schedule.expect Schedule.amountOf; rw [duties_syr, Finset.sum_singleton, amount_syr]

/-- What a finished round brings. -/
theorem rest_bar : bigSep ((Rd X Q).duties (barCell c) 0 \ ∅) (fun d => (Rd X Q).payload (barCell c) 0 d)
    = iprop(barPay (F := F) (ox c) true ∗ barPay (oy c) false) := by
  rw [Finset.sdiff_empty, duties_bar, BI.bigSep_insert (by decide), bigSep_singleton]; rfl
theorem rest_sxs : bigSep ((Rd X Q).duties (sxsCell c b) 0 \ ∅) (fun d => (Rd X Q).payload (sxsCell c b) 0 d) = some' c (stB b) := by
  rw [Finset.sdiff_empty, duties_sxs, bigSep_singleton, payload_sxs]
theorem rest_sxr : bigSep ((Rd X Q).duties (sxrCell c b) 0 \ ∅) (fun d => (Rd X Q).payload (sxrCell c b) 0 d)
    = owns (c : Thread nD τ) (rxB b) fullShare (X (ox c) b) := by
  rw [Finset.sdiff_empty, duties_sxr, bigSep_singleton, payload_sxr]
theorem rest_sys : bigSep ((Rd X Q).duties (sysCell c b) 0 \ ∅) (fun d => (Rd X Q).payload (sysCell c b) 0 d)
    = owns (c : Thread nD τ) (skB 0 b) fullShare (Q c b) := by
  rw [Finset.sdiff_empty, duties_sys, bigSep_singleton, payload_sys]
theorem rest_syr : bigSep ((Rd X Q).duties (syrCell c b) 0 \ ∅) (fun d => (Rd X Q).payload (syrCell c b) 0 d)
    = owns (c : Thread nD τ) (skB 1 b) fullShare (Q (oy c) b) := by
  rw [Finset.sdiff_empty, duties_syr, bigSep_singleton, payload_syr]

/-- Past its one round a cell can be closed: its counter is back, at zero. -/
theorem close (κ : ℕ) (g : GSem nD τ sig) :
    iprop(cellInv ER (Rd X Q) κ g ∗ atPos ER g (0 + 1) ∅ 0) ⊢ (|={Set.univ}=> semVal g 0 : sProp 𝕄) :=
  Rounds.cell_close ER (Rd X Q) (Set.mem_univ κ) id (duties_later X Q g)

end Tables

/-! ## Levels and debts -/

def L (g : GSem nD τ sig) : Finset Ix := if g.1.2 = .tc then {0, 1} else ∅

def lvl : Role → ℕ
  | .bar => 1
  | .sxr _ => 2
  | .syr _ => 3
  | _ => 4

/-- What a core pays itself sits lowest; above it the barriers, the arrivals of the first exchange, those of the second. -/
def lv (g : GSem nD τ sig) (i : Ix) : ℕ := if i = 0 then 0 else lvl (role g.2)

theorem L_of_ne (g : GSem nD τ sig) (h : g.1.2 ≠ .tc) : L g = ∅ := if_neg h
theorem L_tc (c : Dev nD) (sm : SemLoc sig) : L ((c : Thread nD τ), sm) = {0, 1} := if_pos rfl

/-- What c still owes of the first exchange once the blocks below n have left; of the second likewise. -/
def owedX (c : Dev nD) (n : ℕ) : CellTallies nD τ sig Ix := ∑ b : Fin 8 with n ≤ b.val, tallyAt (sxrCell (ox c) b) 1 N
def owedY (c : Dev nD) (n : ℕ) : CellTallies nD τ sig Ix := ∑ b : Fin 8 with n ≤ b.val, tallyAt (syrCell (oy c) b) 1 N
def owedB (c : Dev nD) : CellTallies nD τ sig Ix := tallyAt (barCell (ox c)) 1 1 + tallyAt (barCell (oy c)) 1 1

theorem filter_peel (b : Fin 8) : (Finset.univ.filter fun x : Fin 8 => b.val ≤ x.val)
    = insert b (Finset.univ.filter fun x : Fin 8 => b.val + 1 ≤ x.val) := by
  ext x; simp only [Finset.mem_filter, Finset.mem_univ, true_and, Finset.mem_insert, Fin.ext_iff]; omega

theorem owedX_peel (c : Dev nD) (b : Fin 8) : owedX c b.val = owedX c (b.val + 1) + tallyAt (sxrCell (ox c) b) 1 N := by
  unfold owedX; rw [filter_peel, Finset.sum_insert (by simp), add_comm]
theorem owedY_peel (c : Dev nD) (b : Fin 8) : owedY c b.val = owedY c (b.val + 1) + tallyAt (syrCell (oy c) b) 1 N := by
  unfold owedY; rw [filter_peel, Finset.sum_insert (by simp), add_comm]
theorem owedX_end (c : Dev nD) : owedX c 8 = 0 := by
  unfold owedX; rw [Finset.filter_false_of_mem (fun x _ => by have := x.isLt; omega), Finset.sum_empty]
theorem owedY_end (c : Dev nD) : owedY c 8 = 0 := by
  unfold owedY; rw [Finset.filter_false_of_mem (fun x _ => by have := x.isLt; omega), Finset.sum_empty]

/-- A debt is at index 1 of a cell of the TensorCores, at level at least k. -/
def Above (k : ℕ) (O : CellTallies nD τ sig Ix) : Prop := ∀ g u, 0 < O g u → u = 1 ∧ g.1.2 = .tc ∧ k ≤ lvl (role g.2)

theorem Above.mono {j k : ℕ} (h : j ≤ k) {O : CellTallies nD τ sig Ix} (H : Above k O) : Above j O :=
  fun g u hg => let ⟨a, b, d⟩ := H g u hg; ⟨a, b, h.trans d⟩
theorem Above.zero (k : ℕ) : Above k 0 := fun g u hg => absurd hg (Nat.lt_irrefl 0)
theorem Above.add {k : ℕ} {O O' : CellTallies nD τ sig Ix} (h : Above k O) (h' : Above k O') : Above k (O + O') := fun g u hg => by
  by_cases h0 : 0 < O g u
  · exact h g u h0
  · refine h' g u ?_
    have : (O + O') g u = O g u + O' g u := rfl
    omega
theorem Above.tally {k : ℕ} (c : Dev nD) (sm : SemLoc sig) (n : ℕ) (h : k ≤ lvl (role sm)) : Above k (tallyAt ((c : Thread nD τ), sm) 1 n) :=
  fun g u hg => by
    rw [tallyAt_apply] at hg
    by_cases h' : g = ((c : Thread nD τ), sm) ∧ u = 1
    · rw [h'.1]; exact ⟨h'.2, rfl, h⟩
    · rw [if_neg h'] at hg; exact absurd hg (Nat.lt_irrefl 0)
theorem Above.sum {k : ℕ} (s : Finset (Fin 8)) (f : Fin 8 → CellTallies nD τ sig Ix) (h : ∀ b, Above k (f b)) : Above k (∑ b ∈ s, f b) := by
  classical
  induction s using Finset.induction_on with
  | empty => rw [Finset.sum_empty]; exact Above.zero k
  | insert a s ha ih => rw [Finset.sum_insert ha]; exact (h a).add ih

theorem above_X (c : Dev nD) (n : ℕ) : Above 2 (owedX c n) := Above.sum _ _ fun b => Above.tally _ _ _ (by rw [role_sxr]; exact Nat.le_refl 2)
theorem above_Y (c : Dev nD) (n : ℕ) : Above 3 (owedY c n) := Above.sum _ _ fun b => Above.tally _ _ _ (by rw [role_syr]; exact Nat.le_refl 3)
theorem above_B (c : Dev nD) : Above 1 (owedB c) := (Above.tally _ _ _ (by decide)).add (Above.tally _ _ _ (by decide))

/-- A wait at a level below every debt is allowed. -/
theorem mayWait {k : ℕ} {O : CellTallies nD τ sig Ix} (hO : Above (k + 1) O) (c : Dev nD) (sm : SemLoc sig) (i : Ix) (hi : i = 0 ∨ i = 1)
    (hk : lv ((c : Thread nD τ), sm) i ≤ k) : (levAts L lv : sProp 𝕄) ⊢ MayWait (c : Thread nD τ) sm i O :=
  MayOwe.of_cut (L := L) (lev := lv) k
    (fun p hp => by rw [Finset.mem_singleton.mp hp, L_tc]; rcases hi with rfl | rfl <;> simp)
    (fun g u hg => by obtain ⟨rfl, h, -⟩ := hO g u hg; unfold L; rw [if_pos h]; decide)
    (fun p hp => by rw [Finset.mem_singleton.mp hp]; exact hk)
    (fun g u hg => by obtain ⟨rfl, -, h⟩ := hO g u hg; unfold lv; rw [if_neg (by decide)]; omega)

theorem mayWaits {O : CellTallies nD τ sig Ix} (hO : Above 1 O) (c : Dev nD) :
    (levAts L lv : sProp 𝕄) ⊢ Transfers.MayWaits (c : Thread nD τ) 0 O :=
  Transfers.MayWaits.intro fun sm => mayWait (k := 0) hO c sm 0 (.inl rfl) (by unfold lv; rw [if_pos rfl])

end Cert.Cross

end

end
-- ==== Proof.Grid.lean ====
/-
  The first call's grid in closed form: point t = 8 i + 2 j + k works on block 4 i + j and half k of the contraction.
  At each point: which of the body's regions run, at which offsets, with which semaphores, against which device.
-/
module

public import proofs.«01_k».proof.Proof.Cells

@[expose] public section

set_option maxRecDepth 16384

noncomputable section

namespace Cert.Cross

open Cert.KernelIdeal Cert.KernelIdeal.Gen

open Idealize.ShloMosaic
open Idealize.ShloMosaic.TcCoe

/-! ## Which regions run -/

theorem cond1_iff (t : Fin grid0.N) : k0_cond1 (grid0.coords t) = 1#1 ↔ t.val = 0 := by
  revert t; decide +kernel
theorem cond3_iff (t : Fin grid0.N) : k0_cond3 (grid0.coords t) = 1#1 ↔ t.val % 2 = 1 := by
  revert t; decide +kernel
theorem cond4_iff (t : Fin grid0.N) : k0_cond4 (grid0.coords t) = 1#1 ↔ t.val < 16 := by
  revert t; decide +kernel
theorem cond5_iff (t : Fin grid0.N) : k0_cond5 (grid0.coords t) = 1#1 ↔ 16 ≤ t.val := by
  revert t; decide +kernel
theorem condZ_iff (t : Fin grid0.N) :
    Scalar.cmpi .ne (Scalar.extui (Scalar.cmpi .eq (BitVec.ofNat 32 ((grid0.coords t) 2).val) 0#32) : BitVec 32) 0#32 = 1#1 ↔ t.val % 2 = 0 := by
  revert t; decide +kernel
theorem condE_iff (t : Fin grid0.N) :
    Scalar.cmpi .ne (Scalar.extui (Scalar.andi (Scalar.andi (Scalar.cmpi .eq (BitVec.ofNat 32 ((grid0.coords t) 0).val) 3#32)
      (Scalar.cmpi .eq (BitVec.ofNat 32 ((grid0.coords t) 1).val) 3#32)) (Scalar.cmpi .eq (BitVec.ofNat 32 ((grid0.coords t) 2).val) 1#32)) : BitVec 32) 0#32 = 1#1
      ↔ t.val = 31 := by
  revert t; decide +kernel

/-! ## Blocks of the two exchanges -/

/-- Point `2 b + 1` ends the accumulation of block b of the first exchange, point `17 + 2 b` that of block b of the second. -/
theorem off1_at (t : Fin grid0.N) (b : Fin 8) (h : t.val = 2 * b.val + 1) : k0_off1 (grid0.coords t) = off b := by
  revert t b; decide +kernel
theorem off2_at (t : Fin grid0.N) (b : Fin 8) (h : t.val = 2 * b.val + 1) : k0_off2 (grid0.coords t) = offS b := by
  revert t b; decide +kernel
theorem off3_at (t : Fin grid0.N) (b : Fin 8) (h : t.val = 17 + 2 * b.val) : k0_off3 (grid0.coords t) = offS b := by
  revert t b; decide +kernel
theorem off4_at (t : Fin grid0.N) (b : Fin 8) (h : t.val = 17 + 2 * b.val) : k0_off4 (grid0.coords t) = off b := by
  revert t b; decide +kernel
theorem off5_at (t : Fin grid0.N) (b : Fin 8) (h : t.val = 17 + 2 * b.val) : k0_off5 (grid0.coords t) = off3 0 b := by
  revert t b; decide +kernel
theorem off6_at (t : Fin grid0.N) (b : Fin 8) (h : t.val = 17 + 2 * b.val) : k0_off6 (grid0.coords t) = off3 1 b := by
  revert t b; decide +kernel

/-! ## Slices at equal offsets -/

theorem rx_eq {o : Fin 2 → ℕ} (b : Fin 8) (h : o = off b) (hi) (hu) :
    (Memref.whole main_v12_1).slice (Rect.unit (s := S2048x4096) o S1024x1024.size hi) hu = rxB b := by subst h; rfl
theorem st_eq {o : Fin 2 → ℕ} (b : Fin 8) (h : o = off b) (hi) (hu) :
    (Memref.whole main_v12_2).slice (Rect.unit (s := S2048x4096) o S1024x1024.size hi) hu = stB b := by subst h; rfl
theorem sk_eq {o : Fin 3 → ℕ} (p : Fin 2) (b : Fin 8) (h : o = off3 p b) (hi) (hu) :
    ((Memref.whole main_v12_0).slice (Rect.unit (s := S2x2048x4096) o S1x1024x1024.size hi) hu).squeeze S1024x1024 squeezes_S1x1024x1024_S1024x1024
      = skB p b := by subst h; rfl

theorem sxs_eq {o : Fin 2 → ℕ} (b : Fin 8) (h : o = offS b) (hi) :
    ((cc0_scratch5.slice (Rect.unit (s := S2x4) o S1x1.size hi)).squeeze S_ squeezes_S1x1_S_).sem = sxsS b := by
  subst h; revert b; decide +kernel
theorem sxr_eq {o : Fin 2 → ℕ} (b : Fin 8) (h : o = offS b) (hi) :
    ((cc0_scratch6.slice (Rect.unit (s := S2x4) o S1x1.size hi)).squeeze S_ squeezes_S1x1_S_).sem = sxrS b := by
  subst h; revert b; decide +kernel
theorem sys_eq {o : Fin 2 → ℕ} (b : Fin 8) (h : o = offS b) (hi) :
    ((cc0_scratch7.slice (Rect.unit (s := S2x4) o S1x1.size hi)).squeeze S_ squeezes_S1x1_S_).sem = sysS b := by
  subst h; revert b; decide +kernel
theorem syr_eq {o : Fin 2 → ℕ} (b : Fin 8) (h : o = offS b) (hi) :
    ((cc0_scratch8.slice (Rect.unit (s := S2x4) o S1x1.size hi)).squeeze S_ squeezes_S1x1_S_).sem = syrS b := by
  subst h; revert b; decide +kernel

/-- The three semaphores of the local copies. -/
abbrev cpS (k : Fin 3) : DmaSem sig := match k with | 0 => 4 | 1 => 5 | 2 => 6
theorem cp0_eq (hi) : ((cc0_scratch4.slice (Rect.unit (s := S3) ![0] S1.size hi)).squeeze S_ squeezes_S1_S_).sem = cpS 0 := by revert hi; decide +kernel
theorem cp1_eq (hi) : ((cc0_scratch4.slice (Rect.unit (s := S3) ![1] S1.size hi)).squeeze S_ squeezes_S1_S_).sem = cpS 1 := by revert hi; decide +kernel
theorem cp2_eq (hi) : ((cc0_scratch4.slice (Rect.unit (s := S3) ![2] S1.size hi)).squeeze S_ squeezes_S1_S_).sem = cpS 2 := by revert hi; decide +kernel

/-! ## The table and the devices it names -/

/-- The two words of the table on device c: its place on the mesh. -/
def w0 (c : Dev nD) : BitVec 32 := BitVec.ofNat 32 (c.val / 2)
def w1 (c : Dev nD) : BitVec 32 := BitVec.ofNat 32 (c.val % 2)

theorem dev1_eq (c : Dev nD) (h) : (⟨k0_dev1 (w0 c) (w1 c), h⟩ : Dev nD) = ox c := Fin.ext (by revert c; decide)
theorem dev2_eq (c : Dev nD) (h) : (⟨k0_dev2 (w0 c) (w1 c), h⟩ : Dev nD) = oy c := Fin.ext (by revert c; decide)
theorem dev3_eq (c : Dev nD) (h) : (⟨k0_dev3 (w0 c) (w1 c), h⟩ : Dev nD) = ox c := Fin.ext (by revert c; decide)
theorem dev4_eq (c : Dev nD) (h) : (⟨k0_dev4 (w0 c) (w1 c), h⟩ : Dev nD) = oy c := Fin.ext (by revert c; decide)

/-- The body's check of the table's words holds at every point of every device. -/
theorem chk1_ok (t : Fin grid0.N) (c : Dev nD) : k0_chk1 (grid0.coords t) (w0 c) (w1 c) := by
  have h1 : k0_dev1 (w0 c) (w1 c) < nD := by revert c; decide
  have h2 : k0_dev2 (w0 c) (w1 c) < nD := by revert c; decide
  have h3 : k0_dev3 (w0 c) (w1 c) < nD := by revert c; decide
  have h4 : k0_dev4 (w0 c) (w1 c) < nD := by revert c; decide
  unfold k0_chk1
  simp only [h1, h2, h3, h4, implies_true, and_self]

end Cert.Cross

end

end
-- ==== Proof.Steps.lean ====
/-
  The steps of the protocol as rules: a block sent, a block awaited, the barrier signalled, the barrier awaited.
-/
module

public import proofs.«01_k».proof.Proof.Grid
@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

abbrev 𝒱₀ : Variants := Variants.none

variable (X Q : Dev nD → Fin 8 → Blk F)

/-! ## The cells and their invariants -/

/-- The barrier cells, and the thirty-two exchange cells of each device: those of semaphores 7 to 38. -/
def barE : Dev nD ↪ GSem nD τ sig := ⟨fun c => barCell c, fun a b h => by have := congrArg (fun g => g.1.1) h; exact this⟩

set_option backward.proofsInPublic true in
abbrev exS (k : Fin 32) : DmaSem sig := ⟨7 + k.val, by have := k.isLt; show 7 + k.val < 43; omega⟩
abbrev exCell (c : Dev nD) (k : Fin 32) : GSem nD τ sig := ((c : Thread nD τ), .dma (exS k))
def exE : Dev nD × Fin 32 ↪ GSem nD τ sig := ⟨fun p => exCell p.1 p.2, fun a b h => by
  have h1 : a.1 = b.1 := congrArg (fun g : GSem nD τ sig => g.1.1) h
  have h2 : (SemLoc.dma (exS a.2) : SemLoc sig) = .dma (exS b.2) := congrArg (fun g : GSem nD τ sig => g.2) h
  have h3 : 7 + a.2.val = 7 + b.2.val := congrArg Fin.val (SemLoc.dma.inj h2)
  exact Prod.ext h1 (Fin.ext (by omega))⟩

def barCells : Finset (GSem nD τ sig) := Finset.univ.map barE
def exCells : Finset (GSem nD τ sig) := Finset.univ.map exE

theorem bar_mem (c : Dev nD) : barCell c ∈ barCells ∪ exCells :=
  Finset.mem_union_left _ (Finset.mem_map_of_mem barE (Finset.mem_univ c))
theorem ex_mem (c : Dev nD) (k : Fin 32) : exCell c k ∈ barCells ∪ exCells :=
  Finset.mem_union_right _ (Finset.mem_map_of_mem exE (Finset.mem_univ (c, k)))

set_option backward.proofsInPublic true in
abbrev kxs (b : Fin 8) : Fin 32 := ⟨b.val, by omega⟩
set_option backward.proofsInPublic true in
abbrev kxr (b : Fin 8) : Fin 32 := ⟨8 + b.val, by omega⟩
set_option backward.proofsInPublic true in
abbrev kys (b : Fin 8) : Fin 32 := ⟨16 + b.val, by omega⟩
set_option backward.proofsInPublic true in
abbrev kyr (b : Fin 8) : Fin 32 := ⟨24 + b.val, by omega⟩

theorem sxs_cell (c : Dev nD) (b : Fin 8) : exCell c (kxs b) = sxsCell c b := rfl
theorem sxr_cell (c : Dev nD) (b : Fin 8) : exCell c (kxr b) = sxrCell c b := by
  have : exS (kxr b) = sxrS b := Fin.ext (by show 7 + (8 + b.val) = 15 + b.val; omega)
  unfold exCell; rw [this]
theorem sys_cell (c : Dev nD) (b : Fin 8) : exCell c (kys b) = sysCell c b := by
  have : exS (kys b) = sysS b := Fin.ext (by show 7 + (16 + b.val) = 23 + b.val; omega)
  unfold exCell; rw [this]
theorem syr_cell (c : Dev nD) (b : Fin 8) : exCell c (kyr b) = syrCell c b := by
  have : exS (kyr b) = syrS b := Fin.ext (by show 7 + (24 + b.val) = 31 + b.val; omega)
  unfold exCell; rw [this]

/-- All the invariants, under one map of names. -/
def allInv (K : GSem nD τ sig → ℕ) : sProp 𝕄 := bigSep (barCells ∪ exCells) fun g => cellInv ER (Rd X Q) (K g) g

instance allInv_persistent (K : GSem nD τ sig → ℕ) : BI.Persistent (allInv X Q K) := by unfold allInv; infer_instance

theorem inv_at (K : GSem nD τ sig → ℕ) {g : GSem nD τ sig} (hg : g ∈ barCells ∪ exCells) : allInv X Q K ⊢ cellInv ER (Rd X Q) (K g) g :=
  bigSep_elim hg
theorem inv_bar (K : GSem nD τ sig → ℕ) (c : Dev nD) : allInv X Q K ⊢ cellInv ER (Rd X Q) (K (barCell c)) (barCell c) := inv_at X Q K (bar_mem c)
theorem inv_sxs (K : GSem nD τ sig → ℕ) (c : Dev nD) (b : Fin 8) : allInv X Q K ⊢ cellInv ER (Rd X Q) (K (sxsCell c b)) (sxsCell c b) :=
  inv_at X Q K (sxs_cell c b ▸ ex_mem c (kxs b))
theorem inv_sxr (K : GSem nD τ sig → ℕ) (c : Dev nD) (b : Fin 8) : allInv X Q K ⊢ cellInv ER (Rd X Q) (K (sxrCell c b)) (sxrCell c b) :=
  inv_at X Q K (sxr_cell c b ▸ ex_mem c (kxr b))
theorem inv_sys (K : GSem nD τ sig → ℕ) (c : Dev nD) (b : Fin 8) : allInv X Q K ⊢ cellInv ER (Rd X Q) (K (sysCell c b)) (sysCell c b) :=
  inv_at X Q K (sys_cell c b ▸ ex_mem c (kys b))
theorem inv_syr (K : GSem nD τ sig → ℕ) (c : Dev nD) (b : Fin 8) : allInv X Q K ⊢ cellInv ER (Rd X Q) (K (syrCell c b)) (syrCell c b) :=
  inv_at X Q K (syr_cell c b ▸ ex_mem c (kyr b))

/-! ## The steps of the protocol -/

variable (c : Dev nD)

/-- Sending a block to `c'`: the source goes into the departure's duty, the destination, rewritten, into the arrival's. -/
theorem send_blk {α : Type} {k : PUnit → Prog (TpuEff nD τ sig (Elt F) Λ₀ .tc) α} {Kt : α → sProp 𝕄} (K : GSem nD τ sig → ℕ) {d c' : Dev nD} (hd : d = c') {src dst : Memref sig .tc .hbm S1024x1024 .bf16} {sS sD : DmaSem sig}
    {hsc} {hsrc : src.view.WordExact} {hdst : dst.view.WordExact} {hsem} (Z : Blk F)
    (hN : dst.view.dmaCredit = N)
    (hd₁ : (Rd X Q).duties ((c : Thread nD τ), .dma sS) 0 = {true}) (hd₂ : (Rd X Q).duties ((c' : Thread nD τ), .dma sD) 0 = {true})
    (hk₁ : (Rd X Q).amount ((c : Thread nD τ), .dma sS) 0 true = N) (hk₂ : (Rd X Q).amount ((c' : Thread nD τ), .dma sD) 0 true = N)
    (hp₁ : (Rd X Q).payload ((c : Thread nD τ), .dma sS) 0 true = some' c src ∨ (Rd X Q).payload ((c : Thread nD τ), .dma sS) 0 true = owns (c : Thread nD τ) src fullShare Z)
    (hp₂ : (Rd X Q).payload ((c' : Thread nD τ), .dma sD) 0 true = owns (c' : Thread nD τ) dst fullShare Z)
    {O₀ : CellTallies nD τ sig Ix} (O : CellTallies nD τ sig Ix) (hO : O₀ = O + tallyAt ((c' : Thread nD τ), .dma sD) 1 N) {W : Waits sig Ix} :
    iprop(cellInv ER (Rd X Q) (K ((c : Thread nD τ), .dma sS)) ((c : Thread nD τ), .dma sS)
        ∗ cellInv ER (Rd X Q) (K ((c' : Thread nD τ), .dma sD)) ((c' : Thread nD τ), .dma sD)
        ∗ owns (c : Thread nD τ) src fullShare Z ∗ some' c' dst ∗ owes (c : Thread nD τ) O₀ W
        ∗ dutyTok ER ((c : Thread nD τ), .dma sS) 0 true ∗ reached ER ((c : Thread nD τ), .dma sS) 0
        ∗ dutyTok ER ((c' : Thread nD τ), .dma sD) 0 true ∗ reached ER ((c' : Thread nD τ), .dma sD) 0)
      ⊢ iprop(((cred (tallyAt ((c : Thread nD τ), .dma sS) 0 N) ∗ owes (c : Thread nD τ) O W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma src (.remote (Dev.tc d) dst (.dma sS) hsc) (.dma sD) hsrc hdst hsem) k) Kt) := by
  subst hd
  unfold owns some' owns
  iintro ⟨HI₁, HI₂, ⟨%fs, %hfs, Hs⟩, ⟨%Z', %fd, -, Hd⟩, HO, Ht₁, Hr₁, Ht₂, Hr₂⟩ Hk
  iapply (Rounds.wp_send_pointsTo 𝒱₀ ER (Rd X Q) (c : Thread nD τ) none (c' := (d : Thread nD τ)) (src := src) (dst := dst)
      (sS := .dma sS) (sem := .dma sD) (q := fullShare) (fs := fs) (κ₁ := K ((c : Thread nD τ), .dma sS)) (κ₂ := K ((d : Thread nD τ), .dma sD))
      (r₁ := 0) (r₂ := 0) (d₁ := true) (d₂ := true) (fd := fd)
      (by rw [hd₁]; exact Finset.mem_singleton_self _) (by rw [hd₂]; exact Finset.mem_singleton_self _)
      1 0 N hN hk₁ hk₂ O hO (W := W)
      (by
        rcases hp₁ with hp₁ | hp₁ <;> rw [hp₁]
        · unfold some'; iintro H; iexists _; iapply (owns_intro (c : Thread nD τ) src fullShare fs) $$ H
        · rw [← hfs]; exact owns_intro (c : Thread nD τ) src fullShare fs)
      (by
        rw [hp₂, hfs]
        have h := View.read_write_univ (Val := Elt F) (v := dst.view) fd Z
        exact (owns_intro (d : Thread nD τ) dst fullShare (dst.view.write (Elt F) fd Z Finset.univ)).trans (Entails.of_eq (by rw [h])))) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

/-- Waiting for the round of an exchange cell: what was paid with it comes out. -/
theorem wait_blk {α : Type} {k : PUnit → Prog (TpuEff nD τ sig (Elt F) Λ₀ .tc) α} {Kt : α → sProp 𝕄} (K : GSem nD τ sig → ℕ) {sm : DmaSem sig} {sp sp' : Space} {s s' : Shape} {e e' : EltTy}
    {src : Memref sig .tc sp' s' e'} {dst : Memref sig .tc sp s e} {hsrc : src.view.WordExact} {hdst : dst.view.WordExact}
    (hN : dst.view.dmaCredit = N) (i : Ix) (P : sProp 𝕄)
    (he : (Rd X Q).expect ((c : Thread nD τ), .dma sm) 0 = N)
    (hr : bigSep ((Rd X Q).duties ((c : Thread nD τ), .dma sm) 0 \ ∅) (fun d => (Rd X Q).payload ((c : Thread nD τ), .dma sm) 0 d) = P)
    {O : CellTallies nD τ sig Ix} {W : Waits sig Ix} :
    iprop(cellInv ER (Rd X Q) (K ((c : Thread nD τ), .dma sm)) ((c : Thread nD τ), .dma sm)
        ∗ cred (tallyAt ((c : Thread nD τ), .dma sm) i N) ∗ owes (c : Thread nD τ) O W ∗ MayWait (c : Thread nD τ) (.dma sm) i O
        ∗ atPos ER ((c : Thread nD τ), .dma sm) 0 ∅ 0)
      ⊢ iprop(((owes (c : Thread nD τ) O (insert (.dma sm, i) W) ∗ atPos ER ((c : Thread nD τ), .dma sm) (0 + 1) ∅ 0 ∗ P)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm src dst hsrc hdst) k) Kt) := by
  iintro ⟨HI, Hc, HO, Hm, Ha⟩ Hk
  iapply (Rounds.wp_wait_rest_token 𝒱₀ ER (Rd X Q) (c : Thread nD τ) none (κ := K ((c : Thread nD τ), .dma sm))
      (wpE_waitDma2_eq 𝒱₀ (c : Thread nD τ) none Set.univ) (Set.mem_univ _) i (O := O) (W := W) (R := 0) (m := 0) (T := ∅)
      ((Nat.zero_add _).trans (hN.trans he.symm))) $$ [HI Hc HO Hm Ha]
  · isplitl [HI]; · iexact HI
    isplitl [Hc]; · rw [hN]; iexact Hc
    isplitl [HO]; · iexact HO
    isplitl [Hm]; · iexact Hm
    iexact Ha
  iintro ⟨HO, Ha, -, Hp⟩
  ihave Hp := (Entails.of_eq hr) $$ Hp
  iapply Hk
  isplitl [HO]; · iexact HO
  isplitl [Ha]; · iexact Ha
  iexact Hp

/-- Signalling a neighbour's barrier: what its duty pays goes along. -/
theorem signal_bar {α : Type} {k : PUnit → Prog (TpuEff nD τ sig (Elt F) Λ₀ .tc) α} {Kt : α → sProp 𝕄} (K : GSem nD τ sig → ℕ) {d c' : Dev nD} (hd : d = c') (u : Bool) (P : sProp 𝕄) (hP : pay X Q c' .bar u = P)
    {O₀ : CellTallies nD τ sig Ix} (O : CellTallies nD τ sig Ix) (hO : O₀ = O + tallyAt (barCell c') 1 1) {W : Waits sig Ix} :
    iprop(cellInv ER (Rd X Q) (K (barCell c')) (barCell c') ∗ owes (c : Thread nD τ) O₀ W ∗ dutyTok ER (barCell c') 0 u ∗ P ∗ reached ER (barCell c') 0)
      ⊢ iprop((owes (c : Thread nD τ) O W -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (d, .tc) barS (1#32 : BitVec 32).toInt) k) Kt) := by
  subst hd
  iintro ⟨HI, HO, Ht, Hp, Hr⟩ Hk
  iapply (Rounds.wp_signal 𝒱₀ ER (Rd X Q) (c : Thread nD τ) none (dst := (d : Thread nD τ)) (sem := barS) (r := 0) (d := u) (κ := K (barCell d))
      (by rw [duties_bar]; cases u <;> decide) (amount_bar X Q d u) 1 O hO) $$ [HI HO Ht Hp Hr]
  · isplitl [HI]; · iexact HI
    isplitl [HO]; · iexact HO
    isplitl [Ht]; · iexact Ht
    isplitl [Hp]; · rw [payload_bar, hP]; iexact Hp
    iexact Hr
  iexact Hk

/-- Waiting on the own barrier: the landing places of both neighbours come out. -/
theorem wait_bar {α : Type} {k : PUnit → Prog (TpuEff nD τ sig (Elt F) Λ₀ .tc) α} {Kt : α → sProp 𝕄} (K : GSem nD τ sig → ℕ) {O : CellTallies nD τ sig Ix} {W : Waits sig Ix} :
    iprop(cellInv ER (Rd X Q) (K (barCell c)) (barCell c) ∗ cred (tallyAt (barCell c) 1 2) ∗ owes (c : Thread nD τ) O W
        ∗ MayWait (c : Thread nD τ) (.reg barS) 1 O ∗ atPos ER (barCell c) 0 ∅ 0)
      ⊢ iprop(((owes (c : Thread nD τ) O (insert (.reg barS, 1) W) ∗ atPos ER (barCell c) (0 + 1) ∅ 0
              ∗ barPay (ox c) true ∗ barPay (oy c) false)
            -∗ wp frame (wpE (defs₀ (F := F)) 𝒱₀ (c : Thread nD τ) none) Set.univ (k ⟨⟩) Kt)
          -∗ wp frame (wpE (defs₀ (F := F)) 𝒱₀ (c : Thread nD τ) none) Set.univ (.op (.semWait barS (2#32 : BitVec 32).toInt) k) Kt) := by
  iintro ⟨HI, Hc, HO, Hm, Ha⟩ Hk
  iapply (Rounds.wp_wait_rest_token 𝒱₀ ER (Rd X Q) (c : Thread nD τ) none (κ := K (barCell c))
      (wpE_semWait_eq (k := 2) 𝒱₀ (c : Thread nD τ) none Set.univ) (Set.mem_univ _) 1 (O := O) (W := W) (R := 0) (m := 0) (T := ∅)
      ((Nat.zero_add _).trans (expect_bar X Q c).symm)) $$ [HI Hc HO Hm Ha]
  · isplitl [HI]; · iexact HI
    isplitl [Hc]; · iexact Hc
    isplitl [HO]; · iexact HO
    isplitl [Hm]; · iexact Hm
    iexact Ha
  iintro ⟨HO, Ha, -, Hp⟩
  ihave Hp := (Entails.of_eq (rest_bar X Q c)) $$ Hp
  iapply Hk
  isplitl [HO]; · iexact HO
  isplitl [Ha]; · iexact Ha
  iexact Hp

end Cert.Cross

end

end
-- ==== Proof.Body.lean ====
/-
  One step of the first call, up to its last conditional: the four kinds of step, each from what it needs to what it leaves.
-/
module

public import proofs.«01_k».proof.Proof.Steps
public import Idealize.ShloMosaic.Lib.VecWindow
public import Idealize.ShloMosaic.Lib.Pipeline.Value

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-- The table of a device: its two coordinates. -/
def tb (c : Dev nD) : S2.Idx → Elt F .i32 := fun i => if (i 0).val = 0 then w0 c else w1 c
/-- The table, held. -/
abbrev table (c : Dev nD) : sProp 𝕄 := (Memref.whole main_v11).view.loc (c : Thread nD τ) ↦{fullShare} (tb (F := F) c)

/-- The body of a step up to its last conditional. -/
abbrev P9 (t : Fin grid0.N) (arg4 : Memref sig .tc .vmem S2048x1024 .f32) (h4 : arg4.IsWhole) (arg5 : Memref sig .tc .vmem S2048x1024 .f32) (h5 : arg5.IsWhole) :=
  k0_part9 (F := F) (grid0.coords t) (Memref.whole main_v11) (Memref.isWhole_whole _) arg4 h4 arg5 h5
        (Memref.whole main_v12_0) (Memref.isWhole_whole _) (Memref.whole main_v12_1) (Memref.isWhole_whole _) (Memref.whole main_v12_2) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 cc0_scratch8

/-- What it returns. -/
def R9 (t : Fin grid0.N) (c : Dev nD) : Σ' (_ : BitVec 32) (_ : Elt F .i32) (_ : BitVec 32) (_ : BitVec 1), BitVec 1 :=
  ⟨BitVec.ofNat 32 ((grid0.coords t) 2).val, w0 c, Scalar.subi 1#32 (w1 c), Scalar.cmpi .eq (BitVec.ofNat 32 ((grid0.coords t) 0).val) 3#32, Scalar.cmpi .eq (BitVec.ofNat 32 ((grid0.coords t) 1).val) 3#32⟩

theorem ld_stage (M : Memref sig .tc .vmem S2048x1024 .f32) (f : M.view.ty.Contents (Elt F)) (inb) :
    M.view.readAt (Elt F) (Rect.unit (s := S2048x1024) ![0, 0] S2048x1024.size inb).toLoadRect f = M.view.read (Elt F) f := by
  exact View.readAt_full _ _ _

theorem acc_writes (f w : S1024x1024.Idx → Elt F .f32) (inb) (l) :
    (Memref.whole cc0_scratch0).view.writes (Elt F) f (⟨Rect.unit (s := S1024x1024) ![0, 0] S1024x1024.size inb, w⟩ :: l) = w :=
  Memref.write_access_unit_zero_univ (Elt F) cc0_scratch0 (by decide) inb _ w

theorem ld_acc (f : S1024x1024.Idx → Elt F .f32) (inb) :
    (Memref.whole cc0_scratch0).view.readAt (Elt F) (Rect.unit (s := S1024x1024) ![0, 0] S1024x1024.size inb).toLoadRect f = f :=
  Memref.readAt_unit_zero (Elt F) cc0_scratch0 (by decide) inb f

theorem acc_cov (w : S1024x1024.Idx → Elt F .f32) (inb) :
    (Memref.whole cc0_scratch0).view.readCov [(⟨Rect.unit (s := S1024x1024) ![0, 0] S1024x1024.size inb, w⟩ : View.Piece (Elt F) S1024x1024 .f32)]
      (Rect.unit (s := S1024x1024) ![0, 0] S1024x1024.size inb).toLoadRect = w :=
  View.readCov_unit_zero _ (by decide) _ _

theorem owns_cast (c : Dev nD) {M M' : Memref sig .tc .hbm S1024x1024 .bf16} (e : M = M') (w : Blk F) :
    (owns (c : Thread nD τ) M fullShare w : sProp 𝕄) ⊢ owns (c : Thread nD τ) M' fullShare w := by subst e; exact .rfl

/-- A block that a transfer filled is owned at what was sent. -/
theorem owns_landed (c : Dev nD) (M : Memref sig .tc .hbm S1024x1024 .bf16) (f : M.view.ty.Contents (Elt F)) (w : Blk F) :
    iprop(M.view.loc (c : Thread nD τ) ↦[M.view.set]{fullShare} M.view.writes (Elt F) f [⟨Rect.whole S1024x1024, w⟩])
      ⊢ (owns (c : Thread nD τ) M fullShare w : sProp 𝕄) := by
  have h := owns_intro (Name := ℕ) (Lvl := ℕ) (U := UU) (Ix := Ix) (c : Thread nD τ) M fullShare (M.view.writes (Elt F) f [⟨Rect.whole S1024x1024, w⟩])
  rw [View.read_writes_whole] at h
  exact h

set_option maxHeartbeats 1000000 in
/-- A first half product of a later block: it is accumulated from zero. -/
theorem caseB (c : Dev nD) (t : Fin grid0.N) (h0 : t.val % 2 = 0) (hne : t.val ≠ 0)
    (arg4 : Memref sig .tc .vmem S2048x1024 .f32) (h4 : arg4.IsWhole) (arg5 : Memref sig .tc .vmem S2048x1024 .f32) (h5 : arg5.IsWhole)
    (x y : S2048x1024.Idx → Elt F .f32) (fa : S1024x1024.Idx → Elt F .f32) :
    iprop(table c ∗ owns (c : Thread nD τ) arg4 fullShare x ∗ owns (c : Thread nD τ) arg5 fullShare y
      ∗ ((Memref.whole cc0_scratch0).view.loc (c : Thread nD τ) ↦{fullShare} fa))
    ⊢ wp frame (wpE (defs₀ (F := F)) 𝒱₀ c none) Set.univ (P9 (F := F) t arg4 h4 arg5 h5)
      fun r => iprop(⌜r = R9 t c⌝ ∗ table c ∗ owns (c : Thread nD τ) arg4 fullShare x ∗ owns (c : Thread nD τ) arg5 fullShare y
      ∗ ((Memref.whole cc0_scratch0).view.loc (c : Thread nD τ) ↦{fullShare} (k0_pay3 k0_pay2 x y))) := by
  have hc1 : ¬ k0_cond1 (grid0.coords t) = 1#1 := fun h => hne ((cond1_iff t).1 h)
  have hc3 : ¬ k0_cond3 (grid0.coords t) = 1#1 := fun h => by have := (cond3_iff t).1 h; omega
  have hz := (condZ_iff t).2 h0
  unfold P9
  rw [k0_part9_eq_skeleton]
  unfold k0_part9_skel owns
  iintro ⟨Ht, ⟨%fx, %hx, Hx⟩, ⟨%fy, %hy, Hy⟩, Ha⟩
  sl_exec (disch := first | exact chk1_ok t c | exact hc1 | exact hc3 | exact hz)
  rw [wp_ret]
  imodintro
  isplitr; · ipureintro; rfl
  isplitl [Ht]; · iexact Ht
  isplitl [Hx]
  · iexists fx; isplitr; · ipureintro; exact hx
    iexact Hx
  isplitl [Hy]
  · iexists fy; isplitr; · ipureintro; exact hy
    iexact Hy
  have hv : caseB.sl.v14 = (k0_pay2 (F := F)) := by
    unfold caseB.sl.v14
    exact View.readCov_unit_zero _ (by decide) _ _
  rw [acc_writes, ld_stage, ld_stage, hx, hy, hv]
  iexact Ha

variable (X Q : Dev nD → Fin 8 → Blk F)

/-- `send_blk` at a spelling of the blocks and the semaphores that is equal to the schedule's. -/
theorem send_at {α : Type} {k : PUnit → Prog (TpuEff nD τ sig (Elt F) Λ₀ .tc) α} {Kt : α → sProp 𝕄} (K : GSem nD τ sig → ℕ) (c : Dev nD) {d c' : Dev nD} (hd : d = c')
    {src dst src' dst' : Memref sig .tc .hbm S1024x1024 .bf16} {sS sD sS' sD' : DmaSem sig}
    (e₁ : src' = src) (e₂ : dst' = dst) (e₃ : sS' = sS) (e₄ : sD' = sD)
    {hsc} {hsrc : src'.view.WordExact} {hdst : dst'.view.WordExact} {hsem} (Z : Blk F)
    (hN : dst.view.dmaCredit = N)
    (hd₁ : (Rd X Q).duties ((c : Thread nD τ), .dma sS) 0 = {true}) (hd₂ : (Rd X Q).duties ((c' : Thread nD τ), .dma sD) 0 = {true})
    (hk₁ : (Rd X Q).amount ((c : Thread nD τ), .dma sS) 0 true = N) (hk₂ : (Rd X Q).amount ((c' : Thread nD τ), .dma sD) 0 true = N)
    (hp₁ : (Rd X Q).payload ((c : Thread nD τ), .dma sS) 0 true = some' c src ∨ (Rd X Q).payload ((c : Thread nD τ), .dma sS) 0 true = owns (c : Thread nD τ) src fullShare Z)
    (hp₂ : (Rd X Q).payload ((c' : Thread nD τ), .dma sD) 0 true = owns (c' : Thread nD τ) dst fullShare Z)
    {O₀ : CellTallies nD τ sig Ix} (O : CellTallies nD τ sig Ix) (hO : O₀ = O + tallyAt ((c' : Thread nD τ), .dma sD) 1 N) {W : Waits sig Ix} :
    iprop(cellInv ER (Rd X Q) (K ((c : Thread nD τ), .dma sS)) ((c : Thread nD τ), .dma sS)
        ∗ cellInv ER (Rd X Q) (K ((c' : Thread nD τ), .dma sD)) ((c' : Thread nD τ), .dma sD)
        ∗ owns (c : Thread nD τ) src fullShare Z ∗ some' c' dst ∗ owes (c : Thread nD τ) O₀ W
        ∗ dutyTok ER ((c : Thread nD τ), .dma sS) 0 true ∗ reached ER ((c : Thread nD τ), .dma sS) 0
        ∗ dutyTok ER ((c' : Thread nD τ), .dma sD) 0 true ∗ reached ER ((c' : Thread nD τ), .dma sD) 0)
      ⊢ iprop(((cred (tallyAt ((c : Thread nD τ), .dma sS) 0 N) ∗ owes (c : Thread nD τ) O W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma src' (.remote (Dev.tc d) dst' (.dma sS') hsc) (.dma sD') hsrc hdst hsem) k) Kt) := by
  subst e₁ e₂ e₃ e₄
  exact send_blk X Q c K hd Z hN hd₁ hd₂ hk₁ hk₂ hp₁ hp₂ O hO

/-- `wait_blk` at a spelling of the semaphore that is equal to the schedule's. -/
theorem wait_at {α : Type} {k : PUnit → Prog (TpuEff nD τ sig (Elt F) Λ₀ .tc) α} {Kt : α → sProp 𝕄} (K : GSem nD τ sig → ℕ) (c : Dev nD) {sm sm' : DmaSem sig} (es : sm' = sm)
    {sp sp' : Space} {s s' : Shape} {e e' : EltTy}
    {src : Memref sig .tc sp' s' e'} {dst : Memref sig .tc sp s e} {hsrc : src.view.WordExact} {hdst : dst.view.WordExact}
    (hN : dst.view.dmaCredit = N) (i : Ix) (P : sProp 𝕄)
    (he : (Rd X Q).expect ((c : Thread nD τ), .dma sm) 0 = N)
    (hr : bigSep ((Rd X Q).duties ((c : Thread nD τ), .dma sm) 0 \ ∅) (fun d => (Rd X Q).payload ((c : Thread nD τ), .dma sm) 0 d) = P)
    {O : CellTallies nD τ sig Ix} {W : Waits sig Ix} :
    iprop(cellInv ER (Rd X Q) (K ((c : Thread nD τ), .dma sm)) ((c : Thread nD τ), .dma sm)
        ∗ cred (tallyAt ((c : Thread nD τ), .dma sm) i N) ∗ owes (c : Thread nD τ) O W ∗ MayWait (c : Thread nD τ) (.dma sm) i O
        ∗ atPos ER ((c : Thread nD τ), .dma sm) 0 ∅ 0)
      ⊢ iprop(((owes (c : Thread nD τ) O (insert (.dma sm, i) W) ∗ atPos ER ((c : Thread nD τ), .dma sm) (0 + 1) ∅ 0 ∗ P)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm' src dst hsrc hdst) k) Kt) := by
  subst es
  exact wait_blk X Q c K hN i P he hr

set_option maxHeartbeats 1000000 in
/-- The first step: both neighbours are told, both are heard, and the first half product is accumulated from zero. -/
theorem caseA (K : GSem nD τ sig → ℕ) (c : Dev nD) (t : Fin grid0.N) (h0 : t.val = 0)
    (arg4 : Memref sig .tc .vmem S2048x1024 .f32) (h4 : arg4.IsWhole) (arg5 : Memref sig .tc .vmem S2048x1024 .f32) (h5 : arg5.IsWhole)
    (x y : S2048x1024.Idx → Elt F .f32) (fa : S1024x1024.Idx → Elt F .f32)
    (O₀ O : CellTallies nD τ sig Ix) (hO₀ : O₀ = O + owedB c) (hO : Above 2 O) (W : Waits sig Ix) :
    iprop(allInv X Q K ∗ levAts L lv ∗ owes (c : Thread nD τ) O₀ W ∗ atPos ER (barCell c) 0 ∅ 0 ∗ cred (tallyAt (barCell c) 1 2)
      ∗ dutyTok ER (barCell (ox c)) 0 true ∗ reached ER (barCell (ox c)) 0 ∗ dutyTok ER (barCell (oy c)) 0 false ∗ reached ER (barCell (oy c)) 0
      ∗ barPay c true ∗ barPay c false
      ∗ table c ∗ owns (c : Thread nD τ) arg4 fullShare x ∗ owns (c : Thread nD τ) arg5 fullShare y
      ∗ ((Memref.whole cc0_scratch0).view.loc (c : Thread nD τ) ↦{fullShare} fa))
    ⊢ wp frame (wpE (defs₀ (F := F)) 𝒱₀ c none) Set.univ (P9 (F := F) t arg4 h4 arg5 h5)
      fun r => iprop(⌜r = R9 t c⌝ ∗ (∃ W', owes (c : Thread nD τ) O W') ∗ atPos ER (barCell c) (0 + 1) ∅ 0
      ∗ barPay (ox c) true ∗ barPay (oy c) false
      ∗ table c ∗ owns (c : Thread nD τ) arg4 fullShare x ∗ owns (c : Thread nD τ) arg5 fullShare y
      ∗ ((Memref.whole cc0_scratch0).view.loc (c : Thread nD τ) ↦{fullShare} (k0_pay3 k0_pay2 x y))) := by
  subst hO₀
  have hc1 : k0_cond1 (grid0.coords t) = 1#1 := (cond1_iff t).2 h0
  have hc3 : ¬ k0_cond3 (grid0.coords t) = 1#1 := fun h => by have := (cond3_iff t).1 h; omega
  have hz := (condZ_iff t).2 (by rw [h0])
  unfold P9
  rw [k0_part9_eq_skeleton]
  unfold k0_part9_skel owns
  iintro ⟨#Hinv, #Hlv, HO, Hp, Hc, Htx, #Hrx, Hty, #Hry, Hbx, Hby, Ht, ⟨%fx, %hx, Hx⟩, ⟨%fy, %hy, Hy⟩, Ha⟩
  sl_exec (disch := first | exact chk1_ok t c | exact hc1 | exact hc3 | exact hz)
  ihave HI := (inv_bar X Q K (ox c)) $$ Hinv
  iapply (signal_bar X Q c K (dev1_eq c _) true (barPay c true) (by show barPay (ox (ox c)) true = _; rw [ox_ox])
    (O + tallyAt (barCell (oy c)) 1 1) (O₀ := O + owedB c) (by unfold owedB; rw [add_assoc, add_comm (tallyAt (barCell (oy c)) 1 1)])) $$ [HI HO Htx Hbx]
  · isplitl [HI]; · iexact HI
    isplitl [HO]; · iexact HO
    isplitl [Htx]; · iexact Htx
    isplitl [Hbx]; · iexact Hbx
    iexact Hrx
  iintro HO
  sl_exec (disch := first | exact chk1_ok t c | exact hc1 | exact hc3 | exact hz)
  ihave HI := (inv_bar X Q K (oy c)) $$ Hinv
  iapply (signal_bar X Q c K (dev2_eq c _) false (barPay c false) (by show barPay (oy (oy c)) false = _; rw [oy_oy])
    O rfl) $$ [HI HO Hty Hby]
  · isplitl [HI]; · iexact HI
    isplitl [HO]; · iexact HO
    isplitl [Hty]; · iexact Hty
    isplitl [Hby]; · iexact Hby
    iexact Hry
  iintro HO
  sl_exec (disch := first | exact chk1_ok t c | exact hc1 | exact hc3 | exact hz)
  ihave HI := (inv_bar X Q K c) $$ Hinv
  ihave Hm := (mayWait (k := 1) hO c (.reg barS) 1 (.inr rfl) (by show (if (1 : ℕ) = 0 then 0 else lvl (role (.reg barS))) ≤ 1; decide)) $$ Hlv
  iapply (wait_bar X Q c K) $$ [HI Hc HO Hm Hp]
  · isplitl [HI]; · iexact HI
    isplitl [Hc]; · iexact Hc
    isplitl [HO]; · iexact HO
    isplitl [Hm]; · iexact Hm
    iexact Hp
  iintro ⟨HO, Hp, Hbx, Hby⟩
  sl_exec (disch := first | exact chk1_ok t c | exact hc1 | exact hc3 | exact hz)
  rw [wp_ret]
  imodintro
  isplitr; · ipureintro; rfl
  isplitl [HO]; · iexists _; iexact HO
  isplitl [Hp]; · iexact Hp
  isplitl [Hbx]; · iexact Hbx
  isplitl [Hby]; · iexact Hby
  isplitl [Ht]; · iexact Ht
  isplitl [Hx]
  · iexists fx; isplitr; · ipureintro; exact hx
    iexact Hx
  isplitl [Hy]
  · iexists fy; isplitr; · ipureintro; exact hy
    iexact Hy
  have hv : caseA.sl.v14 = (k0_pay2 (F := F)) := by
    unfold caseA.sl.v14
    exact View.readCov_unit_zero _ (by decide) _ _
  rw [acc_writes, ld_stage, ld_stage, hx, hy, hv]
  iexact Ha

set_option maxHeartbeats 1000000 in
/-- The second half product of a block of the far rows: it is finished, put down, and sent across the first coordinate. -/
theorem caseC (K : GSem nD τ sig → ℕ) (c : Dev nD) (t : Fin grid0.N) (b : Fin 8) (hb : t.val = 2 * b.val + 1)
    (arg4 : Memref sig .tc .vmem S2048x1024 .f32) (h4 : arg4.IsWhole) (arg5 : Memref sig .tc .vmem S2048x1024 .f32) (h5 : arg5.IsWhole)
    (x y : S2048x1024.Idx → Elt F .f32) (fa : S1024x1024.Idx → Elt F .f32) (fv : S1024x1024.Idx → Elt F .bf16)
    (hX : X c b = k0_pay4 (k0_pay3 fa x y))
    (O : CellTallies nD τ sig Ix) (hO : Above 1 (O + tallyAt (sxrCell (ox c) b) 1 N)) (W : Waits sig Ix) :
    iprop(allInv X Q K ∗ levAts L lv ∗ owes (c : Thread nD τ) (O + tallyAt (sxrCell (ox c) b) 1 N) W
      ∗ some' c (stB b) ∗ some' (ox c) (rxB b)
      ∗ dutyTok ER (sxsCell c b) 0 true ∗ reached ER (sxsCell c b) 0
      ∗ dutyTok ER (sxrCell (ox c) b) 0 true ∗ reached ER (sxrCell (ox c) b) 0
      ∗ semVal ((c : Thread nD τ), .dma (cpS 0)) 0
      ∗ table c ∗ owns (c : Thread nD τ) arg4 fullShare x ∗ owns (c : Thread nD τ) arg5 fullShare y
      ∗ ((Memref.whole cc0_scratch0).view.loc (c : Thread nD τ) ↦{fullShare} fa)
      ∗ ((Memref.whole cc0_scratch3).view.loc (c : Thread nD τ) ↦{fullShare} fv))
    ⊢ wp frame (wpE (defs₀ (F := F)) 𝒱₀ c none) Set.univ (P9 (F := F) t arg4 h4 arg5 h5)
      fun r => iprop(⌜r = R9 t c⌝ ∗ (∃ W', owes (c : Thread nD τ) O W') ∗ cred (tallyAt (sxsCell c b) 0 N)
      ∗ semVal ((c : Thread nD τ), .dma (cpS 0)) 0
      ∗ table c ∗ owns (c : Thread nD τ) arg4 fullShare x ∗ owns (c : Thread nD τ) arg5 fullShare y
      ∗ ((Memref.whole cc0_scratch0).view.loc (c : Thread nD τ) ↦{fullShare} (k0_pay3 fa x y))
      ∗ (∃ fv', (Memref.whole cc0_scratch3).view.loc (c : Thread nD τ) ↦{fullShare} fv')) := by
  have hb8 := b.isLt
  have hc1 : ¬ k0_cond1 (grid0.coords t) = 1#1 := fun h => by have := (cond1_iff t).1 h; omega
  have hc3 : k0_cond3 (grid0.coords t) = 1#1 := (cond3_iff t).2 (by omega)
  have hc4 : k0_cond4 (grid0.coords t) = 1#1 := (cond4_iff t).2 (by omega)
  have hc5 : ¬ k0_cond5 (grid0.coords t) = 1#1 := fun h => by have := (cond5_iff t).1 h; omega
  have hz := mt (condZ_iff t).1 (by omega)
  have est := st_eq b (off1_at t b hb) (k0_off1_inb _ hc3 hc4) (fun _ => rfl)
  have erx := rx_eq b (off1_at t b hb) (k0_off1_inb _ hc3 hc4) (fun _ => rfl)
  have ecp := cp0_eq inb_S3_S1_0
  unfold P9
  rw [k0_part9_eq_skeleton]
  unfold k0_part9_skel
  iintro ⟨#Hinv, #Hlv, HO, Hst, Hrx, Hd1, #Hr1, Hd2, #Hr2, Hcp, Ht, Hx, Hy, Ha, Hv⟩
  ihave #Hmw := (mayWaits hO c) $$ Hlv
  rw [← est, ← ecp]
  unfold some' owns
  icases Hx with ⟨%fx, %hx, Hx⟩
  icases Hy with ⟨%fy, %hy, Hy⟩
  icases Hst with ⟨%Zs, %fs, %hs, Hst⟩
  sl_exec (disch := first | exact chk1_ok t c | exact hc1 | exact hc3 | exact hc4 | exact hc5 | exact hz)
  have hw : caseC.sl.dma10 c arg4 arg5 fa fv fx fy = X c b := by
    rw [hX]
    unfold caseC.sl.dma10 caseC.sl.Hv_1 caseC.sl.v44 caseC.sl.Ha_1
    refine (View.read_writes_full _ _ _ _ _).trans ?_
    rw [acc_cov, ld_acc, ld_stage, ld_stage, hx, hy]
  rw [hw]
  ihave Hst := (owns_landed c _ fs (X c b)) $$ Hst
  ihave HI₁ := (inv_sxs X Q K c b) $$ Hinv
  ihave HI₂ := (inv_sxr X Q K (ox c) b) $$ Hinv
  ihave Hst := (owns_cast c est (X c b)) $$ Hst
  iapply (send_at X Q K c (dev3_eq c _) est erx (sxs_eq b (off2_at t b hb) _) (sxr_eq b (off2_at t b hb) _) (X c b) (N_rx b)
    (duties_sxs X Q c b) (duties_sxr X Q (ox c) b) (amount_sxs X Q c b true) (amount_sxr X Q (ox c) b true)
    (.inl (payload_sxs X Q c b true)) ((payload_sxr X Q (ox c) b true).trans (by rw [ox_ox])) O rfl) $$ [HI₁ HI₂ Hst Hrx HO Hd1 Hd2]
  · isplitl [HI₁]; · iexact HI₁
    isplitl [HI₂]; · iexact HI₂
    isplitl [Hst]; · iexact Hst
    isplitl [Hrx]; · iexact Hrx
    isplitl [HO]; · iexact HO
    isplitl [Hd1]; · iexact Hd1
    isplitr; · iexact Hr1
    isplitl [Hd2]; · iexact Hd2
    iexact Hr2
  iintro ⟨Hc, HO⟩
  sl_exec (disch := first | exact chk1_ok t c | exact hc1 | exact hc3 | exact hc4 | exact hc5 | exact hz)
  rw [wp_ret]
  imodintro
  isplitr; · ipureintro; rfl
  isplitl [HO]; · iexists _; iexact HO
  isplitl [Hc]; · iexact Hc
  isplitl [Hcp]; · iexact Hcp
  isplitl [Ht]; · iexact Ht
  isplitl [Hx]
  · iexists fx; isplitr; · ipureintro; exact hx
    iexact Hx
  isplitl [Hy]
  · iexists fy; isplitr; · ipureintro; exact hy
    iexact Hy
  isplitl [Ha]
  · unfold caseC.sl.Ha_1
    rw [acc_writes, ld_acc, ld_stage, ld_stage, hx, hy]
    iexact Ha
  iexists _
  iexact Hv

set_option maxHeartbeats 1000000 in
/-- The second half product of a block of the near rows: the neighbour's share is awaited and added, the finished block put
    down and sent across the second coordinate. -/
theorem caseD (K : GSem nD τ sig → ℕ) (c : Dev nD) (t : Fin grid0.N) (b : Fin 8) (hb : t.val = 17 + 2 * b.val)
    (arg4 : Memref sig .tc .vmem S2048x1024 .f32) (h4 : arg4.IsWhole) (arg5 : Memref sig .tc .vmem S2048x1024 .f32) (h5 : arg5.IsWhole)
    (x y : S2048x1024.Idx → Elt F .f32) (fa : S1024x1024.Idx → Elt F .f32) (fb fq : S1024x1024.Idx → Elt F .bf16)
    (hQ : Q c b = k0_pay1 (k0_pay3 fa x y) (X (ox c) b))
    (O : CellTallies nD τ sig Ix) (hO : Above 3 (O + tallyAt (syrCell (oy c) b) 1 N)) (W : Waits sig Ix) :
    iprop(allInv X Q K ∗ levAts L lv ∗ owes (c : Thread nD τ) (O + tallyAt (syrCell (oy c) b) 1 N) W
      ∗ atPos ER (sxrCell c b) 0 ∅ 0 ∗ cred (tallyAt (sxrCell c b) 1 N)
      ∗ some' c (skB 0 b) ∗ some' (oy c) (skB 1 b)
      ∗ dutyTok ER (sysCell c b) 0 true ∗ reached ER (sysCell c b) 0
      ∗ dutyTok ER (syrCell (oy c) b) 0 true ∗ reached ER (syrCell (oy c) b) 0
      ∗ semVal ((c : Thread nD τ), .dma (cpS 1)) 0 ∗ semVal ((c : Thread nD τ), .dma (cpS 2)) 0
      ∗ table c ∗ owns (c : Thread nD τ) arg4 fullShare x ∗ owns (c : Thread nD τ) arg5 fullShare y
      ∗ ((Memref.whole cc0_scratch0).view.loc (c : Thread nD τ) ↦{fullShare} fa)
      ∗ ((Memref.whole cc0_scratch1).view.loc (c : Thread nD τ) ↦{fullShare} fb)
      ∗ ((Memref.whole cc0_scratch2).view.loc (c : Thread nD τ) ↦{fullShare} fq))
    ⊢ wp frame (wpE (defs₀ (F := F)) 𝒱₀ c none) Set.univ (P9 (F := F) t arg4 h4 arg5 h5)
      fun r => iprop(⌜r = R9 t c⌝ ∗ (∃ W', owes (c : Thread nD τ) O W')
      ∗ atPos ER (sxrCell c b) (0 + 1) ∅ 0 ∗ some' c (rxB b) ∗ cred (tallyAt (sysCell c b) 0 N)
      ∗ semVal ((c : Thread nD τ), .dma (cpS 1)) 0 ∗ semVal ((c : Thread nD τ), .dma (cpS 2)) 0
      ∗ table c ∗ owns (c : Thread nD τ) arg4 fullShare x ∗ owns (c : Thread nD τ) arg5 fullShare y
      ∗ ((Memref.whole cc0_scratch0).view.loc (c : Thread nD τ) ↦{fullShare} (k0_pay3 fa x y))
      ∗ (∃ f, (Memref.whole cc0_scratch1).view.loc (c : Thread nD τ) ↦{fullShare} f)
      ∗ (∃ f, (Memref.whole cc0_scratch2).view.loc (c : Thread nD τ) ↦{fullShare} f)) := by
  have hb8 := b.isLt
  have hc1 : ¬ k0_cond1 (grid0.coords t) = 1#1 := fun h => by have := (cond1_iff t).1 h; omega
  have hc3 : k0_cond3 (grid0.coords t) = 1#1 := (cond3_iff t).2 (by omega)
  have hc4 : ¬ k0_cond4 (grid0.coords t) = 1#1 := fun h => by have := (cond4_iff t).1 h; omega
  have hc5 : k0_cond5 (grid0.coords t) = 1#1 := (cond5_iff t).2 (by omega)
  have hz := mt (condZ_iff t).1 (by omega)
  have erx := rx_eq b (off4_at t b hb) (k0_off4_inb _ hc3 hc5) (fun _ => rfl)
  have esk := sk_eq 0 b (off5_at t b hb) (k0_off5_inb _ hc3 hc5) (fun _ => rfl)
  have hNx : ((Memref.whole main_v12_1).slice (Rect.unit (s := S2048x4096) (k0_off4 (grid0.coords t)) S1024x1024.size (k0_off4_inb _ hc3 hc5)) (fun _ => rfl)).view.dmaCredit = N := rfl
  have ecp1 := cp1_eq inb_S3_S1_1
  have ecp2 := cp2_eq inb_S3_S1_2
  unfold P9
  rw [k0_part9_eq_skeleton]
  unfold k0_part9_skel
  rw [k0_part1_eq_skeleton]
  unfold k0_part1_skel
  iintro ⟨#Hinv, #Hlv, HO, Hp, Hc, Hsk, Hdst, Hd1, #Hr1, Hd2, #Hr2, Hcp1, Hcp2, Ht, Hx, Hy, Ha, Hb, Hq⟩
  ihave #Hmw := (mayWaits (hO.mono (by decide)) c) $$ Hlv
  ihave Hm := (mayWait (k := 2) hO c (.dma (sxrS b)) 1 (.inr rfl) (by unfold lv; rw [if_neg (by decide), role_sxr]; exact Nat.le_refl 2)) $$ Hlv
  icases Hsk with ⟨%Zs, Hsk⟩
  ihave Hsk := (owns_cast c esk.symm Zs) $$ Hsk
  rw [← ecp1, ← ecp2]
  unfold owns
  icases Hx with ⟨%fx, %hx, Hx⟩
  icases Hy with ⟨%fy, %hy, Hy⟩
  icases Hsk with ⟨%fs, %hs, Hsk⟩
  sl_exec (disch := first | exact chk1_ok t c | exact hc1 | exact hc3 | exact hc4 | exact hc5 | exact hz)
  ihave HI := (inv_sxr X Q K c b) $$ Hinv
  iapply (wait_at X Q K c (sxr_eq b (off3_at t b hb) _) (hNx) 1 _ (expect_sxr X Q c b) (rest_sxr X Q c b)) $$ [HI Hc HO Hm Hp]
  · isplitl [HI]; · iexact HI
    isplitl [Hc]; · iexact Hc
    isplitl [HO]; · iexact HO
    isplitl [Hm]; · iexact Hm
    iexact Hp
  iintro ⟨HO, Hp, Hrx⟩
  ihave Hrx := (owns_cast c erx.symm (X (ox c) b)) $$ Hrx
  unfold owns
  icases Hrx with ⟨%fr, %hr, Hrx⟩
  sl_exec (disch := first | exact chk1_ok t c | exact hc1 | exact hc3 | exact hc4 | exact hc5 | exact hz)
  have hw : caseD.sl.dma4 c t arg4 arg5 fa fb fq hc3 hc5 fx fy fr = Q c b := by
    rw [hQ]
    unfold caseD.sl.dma4 caseD.sl.Hq_1
    refine (View.read_writes_full _ _ _ _ _).trans ?_
    unfold caseD.sl.v60 caseD.sl.v61
    rw [acc_cov, ld_acc, ld_stage, ld_stage, hx, hy]
    unfold caseD.sl.dma0
    refine congrArg (k0_pay1 (k0_pay3 fa x y)) ?_
    refine (View.readAt_full _ _ _).trans ?_
    exact (View.read_write_univ (v := (Memref.whole cc0_scratch1).view) _ _).trans hr
  rw [hw]
  ihave Hsk := (owns_landed c _ fs (Q c b)) $$ Hsk
  ihave Hsk := (owns_cast c esk (Q c b)) $$ Hsk
  ihave HI₁ := (inv_sys X Q K c b) $$ Hinv
  ihave HI₂ := (inv_syr X Q K (oy c) b) $$ Hinv
  iapply (send_at X Q K c (dev4_eq c _) esk (sk_eq 1 b (off6_at t b hb) (k0_off6_inb _ hc3 hc5) (fun _ => rfl)) (sys_eq b (off3_at t b hb) _) (syr_eq b (off3_at t b hb) _) (Q c b) (N_sk 1 b)
    (duties_sys X Q c b) (duties_syr X Q (oy c) b) (amount_sys X Q c b true) (amount_syr X Q (oy c) b true)
    (.inr (payload_sys X Q c b true)) ((payload_syr X Q (oy c) b true).trans (by rw [oy_oy])) O rfl) $$ [HI₁ HI₂ Hsk Hdst HO Hd1 Hd2]
  · isplitl [HI₁]; · iexact HI₁
    isplitl [HI₂]; · iexact HI₂
    isplitl [Hsk]; · iexact Hsk
    isplitl [Hdst]; · iexact Hdst
    isplitl [HO]; · iexact HO
    isplitl [Hd1]; · iexact Hd1
    isplitr; · iexact Hr1
    isplitl [Hd2]; · iexact Hd2
    iexact Hr2
  iintro ⟨Hc, HO⟩
  sl_exec (disch := first | exact chk1_ok t c | exact hc1 | exact hc3 | exact hc4 | exact hc5 | exact hz)
  rw [wp_ret]
  imodintro
  isplitr; · ipureintro; rfl
  isplitl [HO]; · iexists _; iexact HO
  isplitl [Hp]; · iexact Hp
  isplitl [Hrx]
  · iexists (X (ox c) b)
    iapply (owns_cast c erx (X (ox c) b))
    unfold owns
    iexists fr; isplitr; · ipureintro; exact hr
    iexact Hrx
  isplitl [Hc]; · iexact Hc
  isplitl [Hcp1]; · iexact Hcp1
  isplitl [Hcp2]; · iexact Hcp2
  isplitl [Ht]; · iexact Ht
  isplitl [Hx]
  · iexists fx; isplitr; · ipureintro; exact hx
    iexact Hx
  isplitl [Hy]
  · iexists fy; isplitr; · ipureintro; exact hy
    iexact Hy
  isplitl [Ha]
  · rw [acc_writes, ld_acc, ld_stage, ld_stage, hx, hy]
    iexact Ha
  isplitl [Hb]; · iexists _; iexact Hb
  iexists _
  iexact Hq

end Cert.Cross

end

end
-- ==== Proof.Drain.lean ====
/-
  The last step of the first call waits for every departure and for the arrivals of the second exchange.
-/
module

public import proofs.«01_k».proof.Proof.Body

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X Q : Dev nD → Fin 8 → Blk F)

/-- Every word of a block that moves is moved whole. -/
theorem we_rx (b : Fin 8) : (rxB b).view.WordExact := (Memref.isWhole_whole main_v12_1).wordExact_slice rfl _ (by revert b; decide +kernel)
theorem we_st (b : Fin 8) : (stB b).view.WordExact := (Memref.isWhole_whole main_v12_2).wordExact_slice rfl _ (by revert b; decide +kernel)
theorem we_sk (p : Fin 2) (b : Fin 8) : (skB p b).view.WordExact :=
  ((Memref.isWhole_whole main_v12_0).wordExact_slice rfl _ (by revert p b; decide +kernel)).reshape _ _

/-- The semaphore of block `b` in one of the four arrays. -/
abbrev semOf (A : DmaSems sig S2x4) (b : Fin 8) : DmaSem sig :=
  ((A.slice (Rect.unit (s := S2x4) (offS b) S1x1.size (offS_inb b))).squeeze S_ squeezes_S1x1_S_).sem

/-- The three waits of each listed block: its first departure, its second departure, its second arrival. -/
def drain : List (Fin 8) → Prog (TpuEff nD τ sig (Elt F) Λ₀ .tc) PUnit
  | [] => .ret ⟨⟩
  | b :: l =>
    .op (.waitDma2 (semOf cc0_scratch5 b) (rxB b) (stB b) (we_rx b) (we_st b)) fun _ =>
    .op (.waitDma2 (semOf cc0_scratch7 b) (skB 1 b) (skB 0 b) (we_sk 1 b) (we_sk 0 b)) fun _ =>
    .op (.waitDma2 (semOf cc0_scratch8 b) (skB 0 b) (skB 1 b) (we_sk 0 b) (we_sk 1 b)) fun _ =>
    drain l

/-- The body of a step. -/
abbrev P0 (t : Fin grid0.N) (arg4 : Memref sig .tc .vmem S2048x1024 .f32) (h4 : arg4.IsWhole) (arg5 : Memref sig .tc .vmem S2048x1024 .f32) (h5 : arg5.IsWhole) :=
  cc0_body (F := F) (grid0.coords t) (Memref.whole main_v11) (Memref.isWhole_whole _) arg4 h4 arg5 h5
        (Memref.whole main_v12_0) (Memref.isWhole_whole _) (Memref.whole main_v12_1) (Memref.isWhole_whole _) (Memref.whole main_v12_2) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7 cc0_scratch8

/-- The word the last conditional of a step tests. -/
abbrev last (r : Σ' (_ : BitVec 32) (_ : Elt F .i32) (_ : BitVec 32) (_ : BitVec 1), BitVec 1) : BitVec 1 :=
  Scalar.cmpi .ne ((Scalar.extui (Scalar.andi (Scalar.andi r.2.2.2.1 r.2.2.2.2) (Scalar.cmpi .eq r.1 1#32)) : BitVec 32)) 0#32

set_option maxRecDepth 65536 in
/-- A step is its main part and then, if the tested word says so, the waits of all eight blocks. -/
theorem P0_eq (t : Fin grid0.N) (arg4 : Memref sig .tc .vmem S2048x1024 .f32) (h4 : arg4.IsWhole) (arg5 : Memref sig .tc .vmem S2048x1024 .f32) (h5 : arg5.IsWhole) :
    P0 (F := F) t arg4 h4 arg5 h5 = P9 t arg4 h4 arg5 h5 >>= fun r => (if last r = 1#1 then drain [0, 1, 2, 3, 4, 5, 6, 7] else .ret ⟨⟩) := by
  unfold P0 P9
  rw [cc0_body_eq_skeleton]
  unfold cc0_body_skel
  refine congrArg _ (funext fun r => ?_)
  obtain ⟨r1, r2, r3, r4, r5⟩ := r
  by_cases h : last (F := F) ⟨r1, r2, r3, r4, r5⟩ = 1#1
  · refine (dif_pos h).trans (Eq.trans ?_ (if_pos h).symm)
    rw [k0_part2_eq_skeleton, k0_part3_eq_skeleton, k0_part4_eq_skeleton, k0_part5_eq_skeleton, k0_part6_eq_skeleton, k0_part7_eq_skeleton, k0_part8_eq_skeleton]
    rfl
  · exact (dif_neg h).trans (if_neg h).symm

omit [FloatOps F] in
/-- A big conjunction over one more index. -/
theorem sep_insert {I : Type} [DecidableEq I] {s : Finset I} {i : I} (hi : i ∉ s) {Φ : I → sProp 𝕄} :
    bigSep (insert i s) Φ = iprop(Φ i ∗ bigSep s Φ) := BI.bigSep_insert hi

/-- With nothing owed left, a wait for the one round of a cell brings its payload, and the cell closes. -/
theorem wait_close {α : Type} {k : PUnit → Prog (TpuEff nD τ sig (Elt F) Λ₀ .tc) α} {Kt : α → sProp 𝕄} (K : GSem nD τ sig → ℕ) (c : Dev nD) {sm sm' : DmaSem sig} (es : sm' = sm)
    {src dst : Memref sig .tc .hbm S1024x1024 .bf16} {hsrc : src.view.WordExact} {hdst : dst.view.WordExact}
    (hN : dst.view.dmaCredit = N) (i : Ix) (hi : i = 0 ∨ i = 1) (P : sProp 𝕄)
    (he : (Rd X Q).expect ((c : Thread nD τ), .dma sm) 0 = N)
    (hr : bigSep ((Rd X Q).duties ((c : Thread nD τ), .dma sm) 0 \ ∅) (fun d => (Rd X Q).payload ((c : Thread nD τ), .dma sm) 0 d) = P) :
    iprop(cellInv ER (Rd X Q) (K ((c : Thread nD τ), .dma sm)) ((c : Thread nD τ), .dma sm) ∗ levAts L lv
        ∗ cred (tallyAt ((c : Thread nD τ), .dma sm) i N) ∗ (∃ W, owes (c : Thread nD τ) 0 W) ∗ atPos ER ((c : Thread nD τ), .dma sm) 0 ∅ 0)
      ⊢ iprop((((∃ W, owes (c : Thread nD τ) 0 W) ∗ semVal ((c : Thread nD τ), .dma sm) 0 ∗ P)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm' src dst hsrc hdst) k) Kt) := by
  iintro ⟨#HI, #Hlv, Hc, ⟨%W, HO⟩, Hp⟩ Hk
  ihave Hm := (mayWait (F := F) (k := lv ((c : Thread nD τ), .dma sm) i) (Above.zero _) c (.dma sm) i hi (Nat.le_refl _)) $$ Hlv
  iapply (wait_at X Q K c es hN i P he hr) $$ [Hc HO Hm Hp]
  · isplitl []; · iexact HI
    isplitl [Hc]; · iexact Hc
    isplitl [HO]; · iexact HO
    isplitl [Hm]; · iexact Hm
    iexact Hp
  iintro ⟨HO, Hp, HP⟩
  imod (close X Q (K ((c : Thread nD τ), .dma sm)) ((c : Thread nD τ), .dma sm)) $$ [Hp] with Hv
  · isplitl []; · iexact HI
    iexact Hp
  iapply Hk
  isplitl [HO]; · iexists _; iexact HO
  isplitl [Hv]; · iexact Hv
  iexact HP

/-- A block whose copies are all on their way: three claims on arrived bytes. -/
def sent (c : Dev nD) (b : Fin 8) : sProp 𝕄 :=
  iprop(cred (tallyAt (sxsCell c b) 0 N) ∗ atPos ER (sxsCell c b) 0 ∅ 0 ∗ cred (tallyAt (sysCell c b) 0 N) ∗ atPos ER (sysCell c b) 0 ∅ 0
    ∗ cred (tallyAt (syrCell c b) 1 N) ∗ atPos ER (syrCell c b) 0 ∅ 0)

/-- A block all of whose copies are over: the three counters at zero, the staged block, the device's own sum and its neighbour's. -/
def gone (c : Dev nD) (b : Fin 8) : sProp 𝕄 :=
  iprop((semVal (sxsCell c b) 0 ∗ some' c (stB b)) ∗ (semVal (sysCell c b) 0 ∗ owns (c : Thread nD τ) (skB 0 b) fullShare (Q c b))
    ∗ (semVal (syrCell c b) 0 ∗ owns (c : Thread nD τ) (skB 1 b) fullShare (Q (oy c) b)))

/-- The waits of the listed blocks end all their copies. -/
theorem drain_ok (K : GSem nD τ sig → ℕ) (c : Dev nD) (l : List (Fin 8)) (hl : l.Nodup) :
    iprop(allInv X Q K ∗ levAts L lv ∗ (∃ W, owes (c : Thread nD τ) 0 W) ∗ bigSep l.toFinset (sent c))
    ⊢ wp frame (wpE (defs₀ (F := F)) 𝒱₀ c none) Set.univ (drain (F := F) l)
        fun _ => iprop((∃ W, owes (c : Thread nD τ) 0 W) ∗ bigSep l.toFinset (gone Q c)) := by
  induction l with
  | nil =>
    unfold drain
    rw [wp_ret, List.toFinset_nil, bigSep_empty, bigSep_empty]
    iintro ⟨-, -, HO, -⟩
    imodintro
    isplitl [HO]; · iexact HO
    iempintro
  | cons b l ih =>
    have hb : b ∉ l.toFinset := fun h => (List.nodup_cons.1 hl).1 (List.mem_toFinset.1 h)
    rw [List.toFinset_cons, sep_insert hb, sep_insert hb]
    unfold drain
    iintro ⟨#Hinv, #Hlv, HO, Hs, Hl⟩
    unfold sent
    icases Hs with ⟨Hc₁, Hp₁, Hc₂, Hp₂, Hc₃, Hp₃⟩
    ihave HI := (inv_sxs X Q K c b) $$ Hinv
    iapply (wait_close X Q K c (sxs_eq b rfl _) (N_st b) 0 (.inl rfl) _ (expect_sxs X Q c b) (rest_sxs X Q c b)) $$ [HI Hc₁ HO Hp₁]
    · isplitl [HI]; · iexact HI
      isplitl []; · iexact Hlv
      isplitl [Hc₁]; · iexact Hc₁
      isplitl [HO]; · iexact HO
      iexact Hp₁
    iintro ⟨HO, H₁⟩
    ihave HI := (inv_sys X Q K c b) $$ Hinv
    iapply (wait_close X Q K c (sys_eq b rfl _) (N_sk 0 b) 0 (.inl rfl) _ (expect_sys X Q c b) (rest_sys X Q c b)) $$ [HI Hc₂ HO Hp₂]
    · isplitl [HI]; · iexact HI
      isplitl []; · iexact Hlv
      isplitl [Hc₂]; · iexact Hc₂
      isplitl [HO]; · iexact HO
      iexact Hp₂
    iintro ⟨HO, H₂⟩
    ihave HI := (inv_syr X Q K c b) $$ Hinv
    iapply (wait_close X Q K c (syr_eq b rfl _) (N_sk 1 b) 1 (.inr rfl) _ (expect_syr X Q c b) (rest_syr X Q c b)) $$ [HI Hc₃ HO Hp₃]
    · isplitl [HI]; · iexact HI
      isplitl []; · iexact Hlv
      isplitl [Hc₃]; · iexact Hc₃
      isplitl [HO]; · iexact HO
      iexact Hp₃
    iintro ⟨HO, H₃⟩
    iapply (wp_wand_r frame (wpE (defs₀ (F := F)) 𝒱₀ c none) Set.univ) $$ [HO Hl H₁ H₂ H₃]
    isplitl [HO Hl]
    · iapply (ih (List.nodup_cons.1 hl).2) $$ [HO Hl]
      isplitl []; · iexact Hinv
      isplitl []; · iexact Hlv
      isplitl [HO]; · iexact HO
      iexact Hl
    · iintro %_ ⟨HO, Hl⟩
      isplitl [HO]; · iexact HO
      isplitl [H₁ H₂ H₃]
      · unfold gone
        isplitl [H₁]; · iexact H₁
        isplitl [H₂]; · iexact H₂
        iexact H₃
      iexact Hl

end Cert.Cross

end

end
-- ==== Proof.Table.lean ====
/-
  The table both calls read, and the blocks their index maps choose on it.
-/
module

public import proofs.«01_k».proof.Proof.Drain
public import Idealize.ShloMosaic.PureOps.BitExact

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-- The table as the calls' index maps read it. -/
def pf (c : Dev nD) : pre0.Contents (Elt F) := fun
  | 0 => tb c
  | ⟨_ + 1, h⟩ => absurd h (Nat.not_lt.2 (Nat.le_add_left _ _))

/-- The block of the first argument a step reads: half `k` of the rows, and the column block of the step's row of output tiles, those of the other row of devices first. -/
def ixX (c : Dev nD) (i : grid0.Coords) : Fin 2 → ℕ := ![(i 2).val, ((i 0).val + 2 * (1 - c.val / 2)) % 4]
/-- The block of the second argument: half `k` of the rows, and the step's column block in the device's half of the columns. -/
def ixY (c : Dev nD) (i : grid0.Coords) : Fin 2 → ℕ := ![(i 2).val, c.val % 2 * 4 + (i 1).val]
/-- The block of the result a step of the second call writes. -/
def ixO (c : Dev nD) (i : grid1.Coords) : Fin 2 → ℕ := ![(i 1).val, if (i 0).val = 0 then c.val % 2 else 1 - c.val % 2]

theorem ix_x_bits : ∀ (c : Dev nD) (i : grid0.Coords), cc0_transform_0 inb_S2_S1_0 numel1_S1 (pf (F := Bits) c) i = ixX c i := by decide +kernel
theorem ix_y_bits : ∀ (c : Dev nD) (i : grid0.Coords), cc0_transform_1 inb_S2_S1_1 numel1_S1 (pf (F := Bits) c) i = ixY c i := by decide +kernel
theorem ix_o_bits : ∀ (c : Dev nD) (i : grid1.Coords), cc1_transform_1 inb_S2_S1_1 numel1_S1 (pf (F := Bits) c) i = ixO c i := by decide +kernel
/-- The index maps, in closed form. -/
theorem ix_x (c : Dev nD) (i : grid0.Coords) : cc0_transform_0 inb_S2_S1_0 numel1_S1 (pf (F := F) c) i = ixX c i :=
  Eq.trans (by rfl) (ix_x_bits c i)
theorem ix_y (c : Dev nD) (i : grid0.Coords) : cc0_transform_1 inb_S2_S1_1 numel1_S1 (pf (F := F) c) i = ixY c i :=
  Eq.trans (by rfl) (ix_y_bits c i)
theorem ix_o (c : Dev nD) (i : grid1.Coords) : cc1_transform_1 inb_S2_S1_1 numel1_S1 (pf (F := F) c) i = ixO c i :=
  Eq.trans (by rfl) (ix_o_bits c i)

theorem ixX_inb : ∀ (c : Dev nD) (i : grid0.Coords) (a), (ixX c i a + 1) * S2048x1024.size a ≤ S4096x4096.size a := by decide +kernel
theorem ixY_inb : ∀ (c : Dev nD) (i : grid0.Coords) (a), (ixY c i a + 1) * S2048x1024.size a ≤ S4096x8192.size a := by decide +kernel
theorem ixO_inb : ∀ (c : Dev nD) (i : grid1.Coords) (a), (ixO c i a + 1) * S512x4096.size a ≤ S2048x8192.size a := by decide +kernel

/-- Every block lies inside its array. -/
theorem ok_0 (c : Dev nD) : ok0 (pf (F := F) c) :=
  ⟨fun i => ⟨fun a => by rw [ix_x]; exact ixX_inb c i a, .inl rfl⟩, fun i => ⟨fun a => by rw [ix_y]; exact ixY_inb c i a, .inl rfl⟩⟩
theorem ok_1 (c : Dev nD) : ok1 (pf (F := F) c) := fun i => ⟨fun a => by rw [ix_o]; exact ixO_inb c i a, .inl rfl⟩

/-- The tables of both calls, per device. -/
def adm (c : Dev nD) : (p : Fin 2) → (pcfgs (F := F) p).Adm
  | 0 => ⟨pf c, ok_0 c⟩
  | 1 => ⟨pf c, ok_1 c⟩

/-- No two staging semaphores of one device are the same, at its tables. -/
theorem phinj : ∀ c : Dev nD, Function.Injective (Pipeline.cellOf (nD := nD) (τ := τ) (Pipeline.pin (pcfgs (F := F)) (adm c))) := fun c => cellOf_inj (adm c)

end Cert.Cross

end

end
-- ==== Proof.Inv.lean ====
/-
  What a device holds before each step of the first call, and that a step takes it to what it holds before the next.
-/
module

public import proofs.«01_k».proof.Proof.Table

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-- Step `n` of the grid. -/
def tm (n : ℕ) : Fin grid0.N := ⟨n % grid0.N, Nat.mod_lt _ (by rw [N_0]; decide)⟩
theorem eq_tm {t : Fin grid0.N} {n : ℕ} (h : t.val = n) : t = tm n := Fin.ext (by
  have := t.isLt; show t.val = n % grid0.N; rw [Nat.mod_eq_of_lt (by omega), h])

/-- A block of an argument. -/
abbrev InBlk (F : FTy → Type) [FloatOps F] : Type := S2048x1024.Idx → Elt F .f32

-- the blocks of the two arguments that each device reads at each step
variable (xb yb : Dev nD → Fin grid0.N → InBlk F)

/-- The accumulator after the first half product of output block `k`. -/
def half (c : Dev nD) (k : ℕ) : S1024x1024.Idx → Elt F .f32 := k0_pay3 k0_pay2 (xb c (tm (2 * k))) (yb c (tm (2 * k)))
/-- And after the second. -/
def full (c : Dev nD) (k : ℕ) : S1024x1024.Idx → Elt F .f32 := k0_pay3 (half xb yb c k) (xb c (tm (2 * k + 1))) (yb c (tm (2 * k + 1)))
/-- What `c` sends in the first exchange: its products for the other row of devices. -/
def XX (c : Dev nD) (b : Fin 8) : Blk F := k0_pay4 (full xb yb c b.val)
/-- Its finished block: its own products and those received. -/
def QQ (c : Dev nD) (b : Fin 8) : Blk F := k0_pay1 (full xb yb c (8 + b.val)) (XX xb yb (ox c) b)

/-! ## Debts -/

theorem owedX_ge (c : Dev nD) {n : ℕ} (h : 8 ≤ n) : owedX c n = 0 := by
  unfold owedX; rw [Finset.filter_false_of_mem (fun x _ => by have := x.isLt; omega), Finset.sum_empty]
theorem owedY_ge (c : Dev nD) {n : ℕ} (h : 8 ≤ n) : owedY c n = 0 := by
  unfold owedY; rw [Finset.filter_false_of_mem (fun x _ => by have := x.isLt; omega), Finset.sum_empty]

/-- What `c` owes before step `n`. -/
def owed (c : Dev nD) (n : ℕ) : CellTallies nD τ sig Ix := owedX c (n / 2) + owedY c ((n - 16) / 2) + if n = 0 then owedB c else 0

theorem owed_first (c : Dev nD) : owed c 0 = owed c 1 + owedB c := by
  unfold owed; rw [if_pos rfl, if_neg (by decide), add_zero]
theorem owed_even (c : Dev nD) {n : ℕ} (h : n % 2 = 0) (h0 : n ≠ 0) : owed c n = owed c (n + 1) := by
  unfold owed; rw [if_neg h0, if_neg (by omega), show (n + 1) / 2 = n / 2 by omega, show (n + 1 - 16) / 2 = (n - 16) / 2 by omega]
theorem owed_x (c : Dev nD) (b : Fin 8) {n : ℕ} (h : n = 2 * b.val + 1) : owed c n = owed c (n + 1) + tallyAt (sxrCell (ox c) b) 1 N := by
  have := b.isLt
  unfold owed
  rw [if_neg (by omega), if_neg (by omega), show n / 2 = b.val by omega, show (n + 1) / 2 = b.val + 1 by omega,
    show (n - 16) / 2 = 0 by omega, show (n + 1 - 16) / 2 = 0 by omega, owedX_peel, add_zero, add_zero, add_right_comm]
theorem owed_y (c : Dev nD) (b : Fin 8) {n : ℕ} (h : n = 17 + 2 * b.val) : owed c n = owed c (n + 1) + tallyAt (syrCell (oy c) b) 1 N := by
  have := b.isLt
  unfold owed
  rw [if_neg (by omega), if_neg (by omega), show (n - 16) / 2 = b.val by omega, show (n + 1 - 16) / 2 = b.val + 1 by omega,
    owedX_ge c (n := n / 2) (by omega), owedX_ge c (n := (n + 1) / 2) (by omega), owedY_peel, add_zero, add_zero, zero_add, zero_add]
theorem owed_last (c : Dev nD) {n : ℕ} (h : n = 32) : owed c n = 0 := by
  unfold owed; rw [owedX_ge c (by omega), owedY_ge c (by omega), if_neg (by omega), add_zero, add_zero]
theorem above_owed (c : Dev nD) {n : ℕ} (h : n ≠ 0) : Above 2 (owed c n) := by
  unfold owed; rw [if_neg h, add_zero]; exact (above_X c _).add ((above_Y c _).mono (by decide))
theorem above_owed_y (c : Dev nD) {n : ℕ} (h : 17 ≤ n) : Above 3 (owed c n) := by
  unfold owed; rw [if_neg (by omega), add_zero, owedX_ge c (by omega), zero_add]; exact above_Y c _

/-! ## What a block's exchanges hold -/

/-- First exchange of a block, before the neighbour has been heard. -/
def X00 (c : Dev nD) (b : Fin 8) : sProp 𝕄 :=
  iprop(atPos ER (sxsCell c b) 0 ∅ 0 ∗ some' c (stB b) ∗ dutyTok ER (sxsCell c b) 0 true ∗ reached ER (sxsCell c b) 0
    ∗ dutyTok ER (sxrCell (ox c) b) 0 true)
/-- First exchange of a block, ready to be sent. -/
def X0 (c : Dev nD) (b : Fin 8) : sProp 𝕄 := iprop(X00 c b ∗ some' (ox c) (rxB b) ∗ reached ER (sxrCell (ox c) b) 0)
/-- First exchange of a block, on its way. -/
def X1 (c : Dev nD) (b : Fin 8) : sProp 𝕄 := iprop(cred (tallyAt (sxsCell c b) 0 N) ∗ atPos ER (sxsCell c b) 0 ∅ 0)

/-- Second exchange of a block, before the neighbour has been heard. -/
def Y00 (c : Dev nD) (b : Fin 8) : sProp 𝕄 :=
  iprop((atPos ER (sxrCell c b) 0 ∅ 0 ∗ cred (tallyAt (sxrCell c b) 1 N)) ∗ some' c (skB 0 b)
    ∗ dutyTok ER (sysCell c b) 0 true ∗ reached ER (sysCell c b) 0 ∗ dutyTok ER (syrCell (oy c) b) 0 true
    ∗ atPos ER (sysCell c b) 0 ∅ 0 ∗ atPos ER (syrCell c b) 0 ∅ 0 ∗ cred (tallyAt (syrCell c b) 1 N))
/-- Second exchange of a block, ready to be sent. -/
def Y0 (c : Dev nD) (b : Fin 8) : sProp 𝕄 := iprop(Y00 c b ∗ some' (oy c) (skB 1 b) ∗ reached ER (syrCell (oy c) b) 0)
/-- Second exchange of a block, on its way. -/
def Y1 (c : Dev nD) (b : Fin 8) : sProp 𝕄 :=
  iprop((atPos ER (sxrCell c b) (0 + 1) ∅ 0 ∗ some' c (rxB b)) ∗ cred (tallyAt (sysCell c b) 0 N) ∗ atPos ER (sysCell c b) 0 ∅ 0
    ∗ cred (tallyAt (syrCell c b) 1 N) ∗ atPos ER (syrCell c b) 0 ∅ 0)

omit [FloatOps F] in
/-- The blocks below `n` hold `B`, the others `A`. -/
def phase (n : ℕ) (A B : Fin 8 → sProp 𝕄) : sProp 𝕄 := bigSep Finset.univ fun b : Fin 8 => if b.val < n then B b else A b

omit [FloatOps F] in
theorem phase_zero (A B : Fin 8 → sProp 𝕄) : phase 0 A B = bigSep Finset.univ A :=
  bigSep_congr fun b _ => if_neg (Nat.not_lt_zero _)
omit [FloatOps F] in
theorem phase_ge {n : ℕ} (h : 8 ≤ n) (A B : Fin 8 → sProp 𝕄) : phase n A B = bigSep Finset.univ B :=
  bigSep_congr fun b _ => if_pos (by have := b.isLt; omega)
omit [FloatOps F] in
/-- The next block comes out of its old state and goes back in its new one. -/
theorem phase_step (b : Fin 8) (A B : Fin 8 → sProp 𝕄) : phase b.val A B ⊢ iprop(A b ∗ (B b -∗ phase (b.val + 1) A B)) := by
  have h := bigSep_univ_update (M := 𝕄) (Φ := fun j : Fin 8 => if j.val < b.val then B j else A j) (Ψ := fun j : Fin 8 => if j.val < b.val + 1 then B j else A j) b
    (fun j hj => by
      have : j.val ≠ b.val := fun e => hj (Fin.ext e)
      by_cases hlt : j.val < b.val
      · rw [if_pos hlt, if_pos (by omega)]
      · rw [if_neg hlt, if_neg (by omega)])
  rw [if_neg (Nat.lt_irrefl _), if_pos (Nat.lt_succ_self _)] at h
  exact h

/-! ## What a device holds -/

/-- Before the first step: all of the exchanges, and the token and the unit due to each neighbour's barrier. -/
def start (c : Dev nD) : sProp 𝕄 :=
  iprop((atPos ER (barCell c) 0 ∅ 0 ∗ cred (tallyAt (barCell c) 1 2)
      ∗ dutyTok ER (barCell (ox c)) 0 true ∗ reached ER (barCell (ox c)) 0 ∗ dutyTok ER (barCell (oy c)) 0 false ∗ reached ER (barCell (oy c)) 0
      ∗ barPay c true ∗ barPay c false) ∗ bigSep Finset.univ (X00 (F := F) c) ∗ bigSep Finset.univ (Y00 (F := F) c))
/-- Between steps. -/
def mid (c : Dev nD) (n : ℕ) : sProp 𝕄 :=
  iprop(semVal (barCell c) 0 ∗ phase (n / 2) (X0 c) (X1 c) ∗ phase ((n - 16) / 2) (Y0 c) (Y1 c))
/-- After the last step: every counter at zero, every buffer back. -/
def fin (c : Dev nD) : sProp 𝕄 :=
  iprop(semVal (barCell c) 0 ∗ bigSep Finset.univ (gone (QQ xb yb) c) ∗ bigSep Finset.univ fun b : Fin 8 => iprop(semVal (sxrCell c b) 0 ∗ some' c (rxB b)))

def st (c : Dev nD) (n : ℕ) : sProp 𝕄 := if n = 0 then start c else if n < 32 then mid c n else fin xb yb c

/-- The three semaphores of the device's own copies, at zero. -/
def cps (c : Dev nD) : sProp 𝕄 :=
  iprop(semVal ((c : Thread nD τ), .dma (cpS 0)) 0 ∗ semVal ((c : Thread nD τ), .dma (cpS 1)) 0 ∗ semVal ((c : Thread nD τ), .dma (cpS 2)) 0)
/-- The accumulator, which between the two halves of a block holds the first half product, and the three block buffers. -/
def tmps (c : Dev nD) (n : ℕ) : sProp 𝕄 :=
  iprop((∃ fa, ⌜n % 2 = 1 → fa = half xb yb c (n / 2)⌝ ∗ (Memref.whole cc0_scratch0).view.loc (c : Thread nD τ) ↦{fullShare} fa)
    ∗ (∃ f, (Memref.whole cc0_scratch1).view.loc (c : Thread nD τ) ↦{fullShare} f)
    ∗ (∃ f, (Memref.whole cc0_scratch2).view.loc (c : Thread nD τ) ↦{fullShare} f)
    ∗ (∃ f, (Memref.whole cc0_scratch3).view.loc (c : Thread nD τ) ↦{fullShare} f))
/-- The invariants of all cells, and the levels. -/
def known : sProp 𝕄 := iprop((∃ K, allInv (XX xb yb) (QQ xb yb) K) ∗ levAts L lv)
instance known_persistent : BI.Persistent (known xb yb) := by unfold known; infer_instance

/-- What a device holds before step `n`. -/
def held (c : Dev nD) (n : ℕ) : sProp 𝕄 := iprop(known xb yb ∗ table c ∗ cps c ∗ tmps xb yb c n ∗ st xb yb c n)

/-! ## The steps -/

/-- What a step does after its main part. -/
def rest (t : Fin grid0.N) : Prog (TpuEff nD τ sig (Elt F) Λ₀ .tc) PUnit := if t.val = 31 then drain [0, 1, 2, 3, 4, 5, 6, 7] else .ret ⟨⟩

/-- A rule of the main part gives one of the step. -/
theorem step_of (c : Dev nD) (t : Fin grid0.N) {arg4 : Memref sig .tc .vmem S2048x1024 .f32} {h4 : arg4.IsWhole} {arg5 : Memref sig .tc .vmem S2048x1024 .f32} {h5 : arg5.IsWhole}
    {H T : sProp 𝕄} {Kt : PUnit → sProp 𝕄}
    (h : H ⊢ wp frame (wpE (defs₀ (F := F)) 𝒱₀ c none) Set.univ (P9 (F := F) t arg4 h4 arg5 h5) fun r => iprop(⌜r = R9 t c⌝ ∗ T)) :
    iprop(H ∗ (T -∗ wp frame (wpE (defs₀ (F := F)) 𝒱₀ c none) Set.univ (rest t) Kt))
      ⊢ wp frame (wpE (defs₀ (F := F)) 𝒱₀ c none) Set.univ (P0 (F := F) t arg4 h4 arg5 h5) Kt := by
  rw [P0_eq, wp_bind]
  iintro ⟨HH, HT⟩
  iapply (wp_wand_r frame (wpE (defs₀ (F := F)) 𝒱₀ c none) Set.univ) $$ [HH HT]
  isplitl [HH]
  · iapply h $$ HH
  iintro %r ⟨%hr, Hr⟩
  subst hr
  have e : (if last (R9 (F := F) t c) = 1#1 then drain [0, 1, 2, 3, 4, 5, 6, 7] else .ret ⟨⟩) = rest (F := F) t := by
    unfold rest
    by_cases h31 : t.val = 31
    · rw [if_pos h31]; exact if_pos ((condE_iff t).2 h31)
    · rw [if_neg h31]; exact if_neg (mt (condE_iff t).1 h31)
  rw [e]
  iapply HT $$ Hr

theorem rest_ret (c : Dev nD) (t : Fin grid0.N) (ht : t.val ≠ 31) {Kt : PUnit → sProp 𝕄} :
    Kt ⟨⟩ ⊢ wp frame (wpE (defs₀ (F := F)) 𝒱₀ c none) Set.univ (rest t) Kt := by
  unfold rest
  rw [if_neg ht, wp_ret]
  exact fupd_intro

end Cert.Cross

end

end
-- ==== Proof.Sums.lean ====
/-
  What the blocks of the first call hold over the extended reals: sums of products over rows.
-/
module

public import proofs.«01_k».proof.Proof.Inv
public import Idealize.ShloMosaic.PureOps.Ideal
public import Idealize.ShloMosaic.PureOps.Ideal.Laws
public import Idealize.ShloMosaic.Lib.Pointwise

@[expose] public section

set_option maxRecDepth 16384

noncomputable section

namespace Cert.Cross

open Cert.KernelIdeal Cert.KernelIdeal.Gen
open Idealize.ShloMosaic

/-- The entry of a two-axis array at natural-number coordinates; 0 outside it. -/
def rd {R C : ℕ} (A : (⟨2, ![R, C]⟩ : Shape).Idx → EReal) (r c : ℕ) : EReal :=
  if h : r < R ∧ c < C then A (ix2 ⟨r, h.1⟩ ⟨c, h.2⟩) else 0

/-- An entry read by its coordinates. -/
theorem rd_at {R C : ℕ} (A : (⟨2, ![R, C]⟩ : Shape).Idx → EReal) (i : (⟨2, ![R, C]⟩ : Shape).Idx) {r c : ℕ}
    (h0 : (i 0).val = r) (h1 : (i 1).val = c) : A i = rd A r c := by
  subst h0 h1
  unfold rd
  rw [dif_pos ⟨(i 0).isLt, (i 1).isLt⟩]
  congr 1
  funext a
  match a with
  | 0 => rfl
  | 1 => rfl

/-- The product step: the accumulator plus the sum over the block's rows. -/
theorem pay3_at (acc : S1024x1024.Idx → EReal) (x y : S2048x1024.Idx → EReal) (j : S1024x1024.Idx) :
    k0_pay3 (F := Ideal) acc x y j = acc j + ∑ k : Fin 2048, x (ix2 k (j 0)) * y (ix2 k (j 1)) := by
  unfold k0_pay3
  simp only [pointwise]
  rw [zero_add]

/-- The same over natural-number coordinates. -/
theorem pay3_rd (acc : S1024x1024.Idx → EReal) (x y : S2048x1024.Idx → EReal) (j : S1024x1024.Idx) :
    k0_pay3 (F := Ideal) acc x y j = acc j + ∑ k ∈ Finset.range 2048, rd x k (j 0).val * rd y k (j 1).val := by
  rw [pay3_at, ← Fin.sum_univ_eq_sum_range (fun k => rd x k (j 0).val * rd y k (j 1).val)]
  congr 1
  refine Finset.sum_congr rfl fun k _ => ?_
  exact congrArg₂ (· * ·) (rd_at x (ix2 k (j 0)) rfl rfl) (rd_at y (ix2 k (j 1)) rfl rfl)

theorem pay2_at (j : S1024x1024.Idx) : k0_pay2 (F := Ideal) j = 0 := by
  unfold k0_pay2
  simp only [pointwise]

/-- The finished product of output block `k` on device `c`: both halves of its rows. -/
theorem full_sum (xb yb : Dev nD → Fin grid0.N → InBlk Ideal) (c : Dev nD) (k : ℕ) (j : S1024x1024.Idx) :
    full xb yb c k j = (∑ p ∈ Finset.range 2048, rd (xb c (tm (2 * k))) p (j 0).val * rd (yb c (tm (2 * k))) p (j 1).val)
      + ∑ p ∈ Finset.range 2048, rd (xb c (tm (2 * k + 1))) p (j 0).val * rd (yb c (tm (2 * k + 1))) p (j 1).val := by
  unfold full
  rw [pay3_rd]
  unfold half
  rw [pay3_rd, pay2_at, zero_add]

/-- A block to be sent in the second exchange: the device's own product and its row neighbour's. -/
theorem QQ_sum (xb yb : Dev nD → Fin grid0.N → InBlk Ideal) (c : Dev nD) (b : Fin 8) (j : S1024x1024.Idx) :
    QQ xb yb c b j = (full xb yb c (8 + b.val) j : EReal) + full xb yb (ox c) b.val j := by
  unfold QQ k0_pay1 XX k0_pay4
  simp only [shapeCast_self]
  rfl

end Cert.Cross

end

end
-- ==== Proof.InvStep.lean ====
/-
  Each step of the first call takes what a device holds before it to what it holds before the next.
-/
module

public import proofs.«01_k».proof.Proof.Inv

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (xb yb : Dev nD → Fin grid0.N → InBlk F)

theorem st_zero (c : Dev nD) {n : ℕ} (h : n = 0) : st xb yb c n = start c := if_pos h
theorem st_mid (c : Dev nD) {n : ℕ} (h0 : n ≠ 0) (h : n < 32) : st xb yb c n = mid c n := (if_neg h0).trans (if_pos h)
theorem st_fin (c : Dev nD) {n : ℕ} (h : n = 32) : st xb yb c n = fin xb yb c := (if_neg (by omega)).trans (if_neg (by omega))

omit [FloatOps F] in
/-- Hearing the neighbour makes a block of the first exchange ready. -/
theorem ready_x (c : Dev nD) : iprop(bigSep Finset.univ (X00 (F := F) c) ∗ barPay (ox c) true) ⊢ bigSep Finset.univ (X0 (F := F) c) := by
  unfold barPay; rw [← bigSep_sep']
  exact Entails.of_eq (bigSep_congr fun b _ => by unfold X0; rfl)
omit [FloatOps F] in
/-- Likewise of the second. -/
theorem ready_y (c : Dev nD) : iprop(bigSep Finset.univ (Y00 (F := F) c) ∗ barPay (oy c) false) ⊢ bigSep Finset.univ (Y0 (F := F) c) := by
  unfold barPay; rw [← bigSep_sep']
  exact Entails.of_eq (bigSep_congr fun b _ => by unfold Y0; rfl)

section

variable (c : Dev nD) (t : Fin grid0.N)
  (arg4 : Memref sig .tc .vmem S2048x1024 .f32) (h4 : arg4.IsWhole) (arg5 : Memref sig .tc .vmem S2048x1024 .f32) (h5 : arg5.IsWhole)

/-- What a device holds before step `n`, its debts and the two staged blocks included. -/
def before (n : ℕ) : sProp 𝕄 :=
  iprop(held xb yb c n ∗ (∃ W, owes (c : Thread nD τ) (owed c n) W)
    ∗ owns (c : Thread nD τ) arg4 fullShare (xb c t) ∗ owns (c : Thread nD τ) arg5 fullShare (yb c t))

/-- The first step. -/
theorem step_first (h0 : t.val = 0) : before xb yb c t arg4 arg5 t.val
    ⊢ wp frame (wpE (defs₀ (F := F)) 𝒱₀ c none) Set.univ (P0 (F := F) t arg4 h4 arg5 h5) fun _ => before xb yb c t arg4 arg5 (t.val + 1) := by
  unfold before held
  rw [st_zero xb yb c h0, st_mid xb yb c (n := t.val + 1) (by omega) (by omega), h0]
  unfold start mid tmps
  iintro ⟨⟨#Hk, Ht, Hcp, ⟨⟨%fa, -, Ha⟩, Hs⟩, ⟨Hp, Hc, Htx, Hrx, Hty, Hry, Hbx, Hby⟩, HX, HY⟩, ⟨%W, HO⟩, Hx, Hy⟩
  unfold known
  icases Hk with ⟨⟨%K, #Hinv⟩, #Hlv⟩
  iapply (step_of c t (caseA (XX xb yb) (QQ xb yb) K c t h0 arg4 h4 arg5 h5 (xb c t) (yb c t) fa (owed c 0) (owed c 1) (owed_first c) (above_owed c (by decide)) W))
  isplitl [HO Hp Hc Htx Hrx Hty Hry Hbx Hby Ht Hx Hy Ha]
  · isplitr; · iexact Hinv
    isplitr; · iexact Hlv
    isplitl [HO]; · iexact HO
    isplitl [Hp]; · iexact Hp
    isplitl [Hc]; · iexact Hc
    isplitl [Htx]; · iexact Htx
    isplitl [Hrx]; · iexact Hrx
    isplitl [Hty]; · iexact Hty
    isplitl [Hry]; · iexact Hry
    isplitl [Hbx]; · iexact Hbx
    isplitl [Hby]; · iexact Hby
    isplitl [Ht]; · iexact Ht
    isplitl [Hx]; · iexact Hx
    isplitl [Hy]; · iexact Hy
    iexact Ha
  iintro ⟨HO, Hp, Hbx, Hby, Ht, Hx, Hy, Ha⟩
  ihave HI := (inv_bar (XX xb yb) (QQ xb yb) K c) $$ Hinv
  imod (close (XX xb yb) (QQ xb yb) (K (barCell c)) (barCell c)) $$ [HI Hp] with Hv
  · isplitl [HI]; · iexact HI
    iexact Hp
  iapply (rest_ret c t (by omega))
  isplitl [Ht Hcp Ha Hs HX HY Hbx Hby Hv]
  · isplitr
    · isplitr; · iexists K; iexact Hinv
      iexact Hlv
    isplitl [Ht]; · iexact Ht
    isplitl [Hcp]; · iexact Hcp
    isplitl [Ha Hs]
    · isplitl [Ha]
      · iexists _; isplitr [Ha]; swap; · iexact Ha
        ipureintro; intro _; rw [eq_tm h0]; rfl
      iexact Hs
    isplitl [Hv]; · iexact Hv
    isplitl [HX Hbx]
    · rw [show (0 + 1) / 2 = 0 from rfl, phase_zero]
      iapply (ready_x c) $$ [HX Hbx]
      isplitl [HX] <;> iassumption
    · rw [show (0 + 1 - 16) / 2 = 0 from rfl, phase_zero]
      iapply (ready_y c) $$ [HY Hby]
      isplitl [HY] <;> iassumption
  isplitl [HO]; · iexact HO
  isplitl [Hx]; · iexact Hx
  iexact Hy

/-- A first half product. -/
theorem step_even (h0 : t.val % 2 = 0) (hne : t.val ≠ 0) : before xb yb c t arg4 arg5 t.val
    ⊢ wp frame (wpE (defs₀ (F := F)) 𝒱₀ c none) Set.univ (P0 (F := F) t arg4 h4 arg5 h5) fun _ => before xb yb c t arg4 arg5 (t.val + 1) := by
  have ht : t.val < 32 := lt_of_lt_of_eq t.isLt N_0
  unfold before held
  rw [st_mid xb yb c hne ht, st_mid xb yb c (n := t.val + 1) (by omega) (by omega), ← owed_even c h0 hne]
  unfold mid tmps
  rw [show (t.val + 1) / 2 = t.val / 2 by omega, show (t.val + 1 - 16) / 2 = (t.val - 16) / 2 by omega]
  iintro ⟨⟨#Hk, Ht, Hcp, ⟨⟨%fa, -, Ha⟩, Hs⟩, HM⟩, HO, Hx, Hy⟩
  iapply (step_of c t (caseB c t h0 hne arg4 h4 arg5 h5 (xb c t) (yb c t) fa))
  isplitl [Ht Hx Hy Ha]
  · isplitl [Ht]; · iexact Ht
    isplitl [Hx]; · iexact Hx
    isplitl [Hy]; · iexact Hy
    iexact Ha
  iintro ⟨Ht, Hx, Hy, Ha⟩
  iapply (rest_ret c t (by omega))
  isplitl [Ht Hcp Ha Hs HM]
  · isplitr; · iexact Hk
    isplitl [Ht]; · iexact Ht
    isplitl [Hcp]; · iexact Hcp
    isplitl [Ha Hs]
    · isplitl [Ha]
      · iexists _; isplitr [Ha]; swap; · iexact Ha
        ipureintro; intro _; unfold half; rw [← eq_tm (t := t) (n := 2 * (t.val / 2)) (by omega)]
      iexact Hs
    iexact HM
  isplitl [HO]; · iexact HO
  isplitl [Hx]; · iexact Hx
  iexact Hy

/-- The accumulator after a second half product. -/
theorem full_at {k : ℕ} (h : t.val = 2 * k + 1) : full xb yb c k = k0_pay3 (half xb yb c k) (xb c t) (yb c t) := by
  unfold full; rw [← eq_tm h]

/-- A second half product for the other row of devices. -/
theorem step_x (b : Fin 8) (hb : t.val = 2 * b.val + 1) : before xb yb c t arg4 arg5 t.val
    ⊢ wp frame (wpE (defs₀ (F := F)) 𝒱₀ c none) Set.univ (P0 (F := F) t arg4 h4 arg5 h5) fun _ => before xb yb c t arg4 arg5 (t.val + 1) := by
  have hb8 := b.isLt
  unfold before held
  rw [st_mid xb yb c (n := t.val) (by omega) (by omega), st_mid xb yb c (n := t.val + 1) (by omega) (by omega), owed_x c b hb]
  unfold mid tmps cps
  rw [show t.val / 2 = b.val by omega, show (t.val + 1) / 2 = b.val + 1 by omega, show (t.val + 1 - 16) / 2 = (t.val - 16) / 2 by omega]
  iintro ⟨⟨#Hk, Ht, ⟨Hcp, Hcps⟩, ⟨⟨%fa, %hfa, Ha⟩, Hs1, Hs2, ⟨%fv, Hs3⟩⟩, Hbar, HX, HY⟩, ⟨%W, HO⟩, Hx, Hy⟩
  have hX : XX xb yb c b = k0_pay4 (k0_pay3 fa (xb c t) (yb c t)) := by
    unfold XX; rw [full_at xb yb c t hb, hfa (by omega)]
  ihave HX := (phase_step b (X0 c) (X1 c)) $$ HX
  icases HX with ⟨HX, Hback⟩
  unfold X0 X00
  icases HX with ⟨⟨Hp, Hst, Hd1, Hr1, Hd2⟩, Hrx, Hr2⟩
  unfold known
  icases Hk with ⟨⟨%K, #Hinv⟩, #Hlv⟩
  iapply (step_of c t (caseC (XX xb yb) (QQ xb yb) K c t b hb arg4 h4 arg5 h5 (xb c t) (yb c t) fa fv hX (owed c (t.val + 1))
    (by rw [← owed_x c b hb]; exact (above_owed c (by omega)).mono (by decide)) W))
  isplitl [HO Hst Hrx Hd1 Hr1 Hd2 Hr2 Hcp Ht Hx Hy Ha Hs3]
  · isplitr; · iexact Hinv
    isplitr; · iexact Hlv
    isplitl [HO]; · iexact HO
    isplitl [Hst]; · iexact Hst
    isplitl [Hrx]; · iexact Hrx
    isplitl [Hd1]; · iexact Hd1
    isplitl [Hr1]; · iexact Hr1
    isplitl [Hd2]; · iexact Hd2
    isplitl [Hr2]; · iexact Hr2
    isplitl [Hcp]; · iexact Hcp
    isplitl [Ht]; · iexact Ht
    isplitl [Hx]; · iexact Hx
    isplitl [Hy]; · iexact Hy
    isplitl [Ha]; · iexact Ha
    iexact Hs3
  iintro ⟨HO, Hc, Hcp, Ht, Hx, Hy, Ha, Hs3⟩
  iapply (rest_ret c t (by omega))
  isplitl [Ht Hcp Hcps Ha Hs1 Hs2 Hs3 Hbar Hback Hc Hp HY]
  · isplitr
    · isplitr; · iexists K; iexact Hinv
      iexact Hlv
    isplitl [Ht]; · iexact Ht
    isplitl [Hcp Hcps]
    · isplitl [Hcp]; · iexact Hcp
      iexact Hcps
    isplitl [Ha Hs1 Hs2 Hs3]
    · isplitl [Ha]
      · iexists _; isplitr [Ha]; swap; · iexact Ha
        ipureintro; intro h; omega
      isplitl [Hs1]; · iexact Hs1
      isplitl [Hs2]; · iexact Hs2
      iexact Hs3
    isplitl [Hbar]; · iexact Hbar
    isplitl [Hback Hc Hp]
    · iapply Hback
      unfold X1
      isplitl [Hc]; · iexact Hc
      iexact Hp
    iexact HY
  isplitl [HO]; · iexact HO
  isplitl [Hx]; · iexact Hx
  iexact Hy

omit [FloatOps F] in
/-- When all is sent: the claims of the last waits, and the closed rounds of the first arrivals. -/
theorem all_sent : iprop(bigSep Finset.univ (X1 (F := F) c) ∗ bigSep Finset.univ (Y1 (F := F) c))
    ⊢ iprop(bigSep Finset.univ (sent (F := F) c) ∗ bigSep Finset.univ fun b : Fin 8 => iprop(atPos ER (sxrCell c b) (0 + 1) ∅ 0 ∗ some' (F := F) c (rxB b))) := by
  rw [← bigSep_sep', ← bigSep_sep']
  have key : ∀ b : Fin 8, iprop(X1 (F := F) c b ∗ Y1 (F := F) c b) ⊢ iprop(sent (F := F) c b ∗ (atPos ER (sxrCell c b) (0 + 1) ∅ 0 ∗ some' (F := F) c (rxB b))) := fun b => by
    unfold X1 Y1 sent
    iintro ⟨⟨H1, H2⟩, ⟨H3, H4, H5, H6, H7⟩⟩
    isplitr [H3]
    · isplitl [H1]; · iexact H1
      isplitl [H2]; · iexact H2
      isplitl [H4]; · iexact H4
      isplitl [H5]; · iexact H5
      isplitl [H6]; · iexact H6
      iexact H7
    iexact H3
  exact bigSep_mono fun b _ => key b

/-- The rounds of the first arrivals close. -/
theorem close_all (X Q : Dev nD → Fin 8 → Blk F) (K : GSem nD τ sig → ℕ) :
    iprop(allInv X Q K ∗ bigSep Finset.univ fun b : Fin 8 => iprop(atPos ER (sxrCell c b) (0 + 1) ∅ 0 ∗ some' (F := F) c (rxB b)))
    ⊢ (|={Set.univ}=> bigSep Finset.univ fun b : Fin 8 => iprop(semVal (sxrCell c b) 0 ∗ some' (F := F) c (rxB b)) : sProp 𝕄) := by
  refine (bigSep_with_persistent (Ψ := fun b => iprop(|={Set.univ}=> (semVal (sxrCell c b) 0 ∗ some' (F := F) c (rxB b)))) fun b _ => ?_).trans (bigSep_fupd _ _)
  iintro ⟨#Hinv, Hp, Hs⟩
  ihave HI := (inv_sxr X Q K c b) $$ Hinv
  imod (close X Q (K (sxrCell c b)) (sxrCell c b)) $$ [HI Hp] with Hv
  · isplitl [HI]; · iexact HI
    iexact Hp
  imodintro
  isplitl [Hv]; · iexact Hv
  iexact Hs

set_option maxHeartbeats 800000 in
/-- A second half product for the device's own row; after the last one come the waits for all that is on its way. -/
theorem step_y (b : Fin 8) (hb : t.val = 17 + 2 * b.val) : before xb yb c t arg4 arg5 t.val
    ⊢ wp frame (wpE (defs₀ (F := F)) 𝒱₀ c none) Set.univ (P0 (F := F) t arg4 h4 arg5 h5) fun _ => before xb yb c t arg4 arg5 (t.val + 1) := by
  have hb8 := b.isLt
  unfold before held
  rw [st_mid xb yb c (n := t.val) (by omega) (by omega), owed_y c b hb]
  unfold mid tmps cps
  rw [show (t.val - 16) / 2 = b.val by omega, phase_ge (n := t.val / 2) (by omega)]
  iintro ⟨⟨#Hk, Ht, ⟨Hcp0, Hcp1, Hcp2⟩, ⟨⟨%fa, %hfa, Ha⟩, ⟨%fb, Hs1⟩, ⟨%fq, Hs2⟩, Hs3⟩, Hbar, HX, HY⟩, ⟨%W, HO⟩, Hx, Hy⟩
  have hQ : QQ xb yb c b = k0_pay1 (k0_pay3 fa (xb c t) (yb c t)) (XX xb yb (ox c) b) := by
    unfold QQ; rw [full_at xb yb c t (k := 8 + b.val) (by omega), hfa (by omega), show t.val / 2 = 8 + b.val by omega]
  ihave HY := (phase_step b (Y0 c) (Y1 c)) $$ HY
  icases HY with ⟨HY, Hback⟩
  unfold Y0 Y00
  icases HY with ⟨⟨⟨Hp, Hc⟩, Hsk, Hd1, Hr1, Hd2, Hp1, Hp2, Hc2⟩, Hdst, Hr2⟩
  unfold known
  icases Hk with ⟨⟨%K, #Hinv⟩, #Hlv⟩
  iapply (step_of c t (caseD (XX xb yb) (QQ xb yb) K c t b hb arg4 h4 arg5 h5 (xb c t) (yb c t) fa fb fq hQ (owed c (t.val + 1))
    (by rw [← owed_y c b hb]; exact above_owed_y c (by omega)) W))
  isplitl [HO Hp Hc Hsk Hdst Hd1 Hr1 Hd2 Hr2 Hcp1 Hcp2 Ht Hx Hy Ha Hs1 Hs2]
  · isplitr; · iexact Hinv
    isplitr; · iexact Hlv
    isplitl [HO]; · iexact HO
    isplitl [Hp]; · iexact Hp
    isplitl [Hc]; · iexact Hc
    isplitl [Hsk]; · iexact Hsk
    isplitl [Hdst]; · iexact Hdst
    isplitl [Hd1]; · iexact Hd1
    isplitl [Hr1]; · iexact Hr1
    isplitl [Hd2]; · iexact Hd2
    isplitl [Hr2]; · iexact Hr2
    isplitl [Hcp1]; · iexact Hcp1
    isplitl [Hcp2]; · iexact Hcp2
    isplitl [Ht]; · iexact Ht
    isplitl [Hx]; · iexact Hx
    isplitl [Hy]; · iexact Hy
    isplitl [Ha]; · iexact Ha
    isplitl [Hs1]; · iexact Hs1
    iexact Hs2
  iintro ⟨HO, Hp, Hrx, Hc, Hcp1, Hcp2, Ht, Hx, Hy, Ha, Hs1, Hs2⟩
  ihave HY := Hback $$ [Hp Hrx Hc Hp1 Hc2 Hp2]
  · unfold Y1
    isplitl [Hp Hrx]
    · isplitl [Hp]; · iexact Hp
      iexact Hrx
    isplitl [Hc]; · iexact Hc
    isplitl [Hp1]; · iexact Hp1
    isplitl [Hc2]; · iexact Hc2
    iexact Hp2
  by_cases h31 : t.val = 31
  · rw [st_fin xb yb c (n := t.val + 1) (by omega), owed_last c (n := t.val + 1) (by omega)]
    ihave HY := (Entails.of_eq (phase_ge (n := b.val + 1) (by omega) _ _)) $$ HY
    unfold rest fin
    rw [if_pos h31]
    ihave H := (all_sent c) $$ [HX HY]
    · isplitl [HX]; · iexact HX
      iexact HY
    icases H with ⟨Hsent, Hsxr⟩
    imod (close_all c (XX xb yb) (QQ xb yb) K) $$ [Hsxr] with Hsxr
    · isplitr; · iexact Hinv
      iexact Hsxr
    iapply (wp_wand_r frame (wpE (defs₀ (F := F)) 𝒱₀ c none) Set.univ)
    isplitl [HO Hsent]
    · iapply (drain_ok (XX xb yb) (QQ xb yb) K c [0, 1, 2, 3, 4, 5, 6, 7] (by decide)) $$ [HO Hsent]
      isplitr; · iexact Hinv
      isplitr; · iexact Hlv
      isplitl [HO]; · iexact HO
      rw [show [0, 1, 2, 3, 4, 5, 6, 7].toFinset = (Finset.univ : Finset (Fin 8)) from by decide]
      iexact Hsent
    rw [show [0, 1, 2, 3, 4, 5, 6, 7].toFinset = (Finset.univ : Finset (Fin 8)) from by decide]
    iintro %_ ⟨HO, Hgone⟩
    isplitl [Ht Hcp0 Hcp1 Hcp2 Ha Hs1 Hs2 Hs3 Hbar Hgone Hsxr]
    · isplitr
      · isplitr; · iexists K; iexact Hinv
        iexact Hlv
      isplitl [Ht]; · iexact Ht
      isplitl [Hcp0 Hcp1 Hcp2]
      · isplitl [Hcp0]; · iexact Hcp0
        isplitl [Hcp1]; · iexact Hcp1
        iexact Hcp2
      isplitl [Ha Hs1 Hs2 Hs3]
      · isplitl [Ha]
        · iexists _; isplitr [Ha]; swap; · iexact Ha
          ipureintro; intro h; omega
        isplitl [Hs1]; · iexact Hs1
        isplitl [Hs2]; · iexact Hs2
        iexact Hs3
      isplitl [Hbar]; · iexact Hbar
      isplitl [Hgone]; · iexact Hgone
      iexact Hsxr
    isplitl [HO]; · iexact HO
    isplitl [Hx]; · iexact Hx
    iexact Hy
  · rw [st_mid xb yb c (n := t.val + 1) (by omega) (by omega)]
    unfold mid
    rw [phase_ge (n := (t.val + 1) / 2) (by omega), show (t.val + 1 - 16) / 2 = b.val + 1 by omega]
    iapply (rest_ret c t h31)
    isplitl [Ht Hcp0 Hcp1 Hcp2 Ha Hs1 Hs2 Hs3 Hbar HX HY]
    · isplitr
      · isplitr; · iexists K; iexact Hinv
        iexact Hlv
      isplitl [Ht]; · iexact Ht
      isplitl [Hcp0 Hcp1 Hcp2]
      · isplitl [Hcp0]; · iexact Hcp0
        isplitl [Hcp1]; · iexact Hcp1
        iexact Hcp2
      isplitl [Ha Hs1 Hs2 Hs3]
      · isplitl [Ha]
        · iexists _; isplitr [Ha]; swap; · iexact Ha
          ipureintro; intro h; omega
        isplitl [Hs1]; · iexact Hs1
        isplitl [Hs2]; · iexact Hs2
        iexact Hs3
      isplitl [Hbar]; · iexact Hbar
      isplitl [HX]; · iexact HX
      iexact HY
    isplitl [HO]; · iexact HO
    isplitl [Hx]; · iexact Hx
    iexact Hy

/-- A step. -/
theorem step_ok : before xb yb c t arg4 arg5 t.val
    ⊢ wp frame (wpE (defs₀ (F := F)) 𝒱₀ c none) Set.univ (P0 (F := F) t arg4 h4 arg5 h5) fun _ => before xb yb c t arg4 arg5 (t.val + 1) := by
  have ht : t.val < 32 := lt_of_lt_of_eq t.isLt N_0
  by_cases h2 : t.val % 2 = 0
  · by_cases h0 : t.val = 0
    · exact step_first xb yb c t arg4 h4 arg5 h5 h0
    · exact step_even xb yb c t arg4 h4 arg5 h5 h2 h0
  · by_cases h16 : t.val < 16
    · exact step_x xb yb c t arg4 h4 arg5 h5 ⟨t.val / 2, by omega⟩ (by show t.val = 2 * (t.val / 2) + 1; omega)
    · exact step_y xb yb c t arg4 h4 arg5 h5 ⟨(t.val - 17) / 2, by omega⟩ (by show t.val = 17 + 2 * ((t.val - 17) / 2); omega)

end

end Cert.Cross

end

end
-- ==== Proof.Call0.lean ====
/-
  The first call as a pipeline: what its windows read, and its body at every point.
-/
module

public import proofs.«01_k».proof.Proof.InvStep
public import proofs.«01_k».proof.Proof.Gen.KernelIdeal.Regions

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat BodyObligation)

/-- The contents of every device's buffers. -/
abbrev Mem (F : FTy → Type) [FloatOps F] : Type := (c : Dev nD) → (b : Ref sig .tc) → Buf (Elt F) ((c : Thread nD τ).loc b)

-- what the buffers hold when the calls begin
variable (V : Mem F)

/-- The first call's pipeline on device `c`. -/
abbrev cf0 (c : Dev nD) : Pipeline.Cfg sig Λ₀ := (pcfg0 (F := F)).at (adm c 0)

/-- The block of the first argument that device `c` reads at step `t`; of the second. -/
def xb (c : Dev nD) (t : Fin grid0.N) : InBlk F := ((cf0 (F := F) c).win 0 |>.blk t).view.read (Elt F) (V c main_arg0)
def yb (c : Dev nD) (t : Fin grid0.N) : InBlk F := ((cf0 (F := F) c).win 1 |>.blk t).view.read (Elt F) (V c main_arg1)

/-- The second call's staging buffers, which the first leaves alone. -/
def idle0 (c : Dev nD) : sProp 𝕄 :=
  iprop((∃ f, (c : Thread nD τ).loc cc1_stg0_0 ↦{fullShare} f) ∗ (∃ f, (c : Thread nD τ).loc cc1_stg0_1 ↦{fullShare} f)
    ∗ (∃ f, (c : Thread nD τ).loc cc1_stg1_0 ↦{fullShare} f) ∗ ∃ f, (c : Thread nD τ).loc cc1_stg1_1 ↦{fullShare} f)

/-- The first call: its arrays are never written, and between steps a device holds `held`. -/
def dat0 (c : Dev nD) : Dat τ (Elt F) Ix ℕ UU ℕ (cf0 (F := F) c) c where
  A w := V c (Pipeline.arrRef (pcfg0 (F := F)).spec w)
  after
    | 0, t => xb V c t
    | 1, t => yb V c t
    | ⟨_ + 2, h⟩, _ => absurd h (Nat.not_lt.2 (Nat.le_add_left _ _))
  Φ t := iprop(held (xb V) (yb V) c t.val ∗ idle0 c)
  q _ := fullShare
  owed t := owed c t.val

theorem before0_0 (c : Dev nD) (t : Fin grid0.N) (d) : (dat0 V c).before 0 t d = xb V c t :=
  ((dat0 V c).before_in_eq_fetched 0 rfl (fun _ => rfl) (fun _ _ _ => rfl) (fun _ => rfl) t d).trans rfl
theorem before0_1 (c : Dev nD) (t : Fin grid0.N) (d) : (dat0 V c).before 1 t d = yb V c t :=
  ((dat0 V c).before_in_eq_fetched 1 rfl (fun _ => rfl) (fun _ _ _ => rfl) (fun _ => rfl) t d).trans rfl

theorem owesAt_of {cfg : Pipeline.Cfg sig Λ₀} {c : Dev nD} (dat : Dat τ (Elt F) Ix ℕ UU ℕ cfg c) (t : Fin (cfg.N + 1))
    {O : CellTallies nD τ sig Ix} (hO : dat.owed t = O) (hr : dat.recorded t = Set.univ) :
    iprop(∃ W, owes (c : Thread nD τ) O W) ⊢ (dat.owesAt 0 t : sProp 𝕄) := by
  unfold Dat.owesAt Pipeline.owesWithin Dat.bound
  rw [hO, hr]
  iintro ⟨%W, HO⟩
  iexists W
  isplitr
  · ipureintro; exact fun _ _ => Or.inl trivial
  iexact HO

theorem of_owesAt {cfg : Pipeline.Cfg sig Λ₀} {c : Dev nD} (dat : Dat τ (Elt F) Ix ℕ UU ℕ cfg c) (t : Fin (cfg.N + 1))
    {O : CellTallies nD τ sig Ix} (hO : dat.owed t = O) :
    (dat.owesAt 0 t : sProp 𝕄) ⊢ iprop(∃ W, owes (c : Thread nD τ) O W) := by
  unfold Dat.owesAt Pipeline.owesWithin
  rw [hO]
  iintro ⟨%W, -, HO⟩
  iexists W
  iexact HO

/-- Every point of the first call runs, from what a device holds before it to what it holds after. -/
theorem body0 (c : Dev nD) : BodyObligation (dat0 V c) (defs₀ (F := F)) 𝒱₀ 0 Set.univ := fun t => by
  rw [bigSep_W0, bigSep_W0]
  have hs := step_ok (xb V) (yb V) c t (spec0_0.stage ((cf0 (F := F) c).slots t 0)) (hstage0_0 (((cf0 (F := F) c).slots t 0).cast nbuf0_0))
    (spec0_1.stage ((cf0 (F := F) c).slots t 1)) (hstage0_1 (((cf0 (F := F) c).slots t 1).cast nbuf0_1))
  show iprop((held (xb V) (yb V) c t.val ∗ idle0 c) ∗ (dat0 V c).owesAt 0 t.castSucc
    ∗ (∃ d, owns (c : Thread nD τ) (spec0_0.stage ((cf0 (F := F) c).slots t 0)) fullShare ((dat0 V c).before 0 t d))
    ∗ (∃ d, owns (c : Thread nD τ) (spec0_1.stage ((cf0 (F := F) c).slots t 1)) fullShare ((dat0 V c).before 1 t d)))
    ⊢ wp frame (wpE (defs₀ (F := F)) 𝒱₀ c none) Set.univ (P0 (F := F) t _ _ _ _) fun _ =>
      iprop((held (xb V) (yb V) c (t.val + 1) ∗ idle0 c) ∗ (dat0 V c).owesAt 0 t.succ
        ∗ owns (c : Thread nD τ) (spec0_0.stage ((cf0 (F := F) c).slots t 0)) fullShare (xb V c t)
        ∗ owns (c : Thread nD τ) (spec0_1.stage ((cf0 (F := F) c).slots t 1)) fullShare (yb V c t))
  iintro ⟨⟨Hh, Hi⟩, HO, ⟨%d, Hx⟩, ⟨%d', Hy⟩⟩
  rw [before0_0, before0_1]
  ihave HO := (of_owesAt (dat0 V c) t.castSucc (O := owed c t.val) rfl) $$ HO
  iapply (wp_wand_r frame (wpE (defs₀ (F := F)) 𝒱₀ c none) Set.univ)
  isplitl [Hh HO Hx Hy]
  · iapply hs
    unfold before
    isplitl [Hh]; · iexact Hh
    isplitl [HO]; · iexact HO
    isplitl [Hx]; · iexact Hx
    iexact Hy
  unfold before
  iintro %_ ⟨Hh, HO, Hx, Hy⟩
  isplitl [Hh Hi]
  · isplitl [Hh]; · iexact Hh
    iexact Hi
  isplitl [HO]
  · iapply (owesAt_of (dat0 V c) t.succ (O := owed c (t.val + 1)) rfl rfl) $$ HO
  isplitl [Hx]; · iexact Hx
  iexact Hy

end Cert.Cross

end

end
-- ==== Proof.Reads.lean ====
/-
  The blocks that the first call reads, entry by entry, and the products as sums over a device's rows.
-/
module

public import proofs.«01_k».proof.Proof.Sums
public import proofs.«01_k».proof.Proof.Call0

@[expose] public section

set_option maxRecDepth 16384

noncomputable section

namespace Cert.Cross

open Cert.KernelIdeal Cert.KernelIdeal.Gen
open Idealize.ShloMosaic

/-- The coordinates of a step of the first call. -/
theorem coords0 : ∀ t : Fin grid0.N, (grid0.coords t 0).val = t.val / 8 ∧ (grid0.coords t 1).val = t.val / 2 % 4 ∧ (grid0.coords t 2).val = t.val % 2 := by decide +kernel

/-- An entry of the block of the first argument read at a step. -/
theorem xb_rd (V : Mem Ideal) (c : Dev nD) (t : Fin grid0.N) (p q : ℕ) (hp : p < 2048) (hq : q < 1024) :
    rd (xb V c t) p q = rd (V c main_arg0) (t.val % 2 * 2048 + p) ((t.val / 8 + 2 * (1 - c.val / 2)) % 4 * 1024 + q) := by
  obtain ⟨h0, -, h2⟩ := coords0 t
  have hx := ix_x (F := Ideal) c (grid0.coords t)
  refine (rd_at (xb V c t) (ix2 ⟨p, hp⟩ ⟨q, hq⟩) rfl rfl).symm.trans (rd_at (V c main_arg0) _ ?_ ?_)
  · show cc0_transform_0 inb_S2_S1_0 numel1_S1 (pf (F := Ideal) c) (grid0.coords t) 0 * 2048 + 1 * p = _
    rw [hx]
    show (grid0.coords t 2).val * 2048 + 1 * p = _
    rw [h2, one_mul]
  · show cc0_transform_0 inb_S2_S1_0 numel1_S1 (pf (F := Ideal) c) (grid0.coords t) 1 * 1024 + 1 * q = _
    rw [hx]
    show ((grid0.coords t 0).val + 2 * (1 - c.val / 2)) % 4 * 1024 + 1 * q = _
    rw [h0, one_mul]

/-- An entry of the block of the second argument read at a step. -/
theorem yb_rd (V : Mem Ideal) (c : Dev nD) (t : Fin grid0.N) (p q : ℕ) (hp : p < 2048) (hq : q < 1024) :
    rd (yb V c t) p q = rd (V c main_arg1) (t.val % 2 * 2048 + p) ((c.val % 2 * 4 + t.val / 2 % 4) * 1024 + q) := by
  obtain ⟨-, h1, h2⟩ := coords0 t
  have hy := ix_y (F := Ideal) c (grid0.coords t)
  refine (rd_at (yb V c t) (ix2 ⟨p, hp⟩ ⟨q, hq⟩) rfl rfl).symm.trans (rd_at (V c main_arg1) _ ?_ ?_)
  · show cc0_transform_1 inb_S2_S1_1 numel1_S1 (pf (F := Ideal) c) (grid0.coords t) 0 * 2048 + 1 * p = _
    rw [hy]
    show (grid0.coords t 2).val * 2048 + 1 * p = _
    rw [h2, one_mul]
  · show cc0_transform_1 inb_S2_S1_1 numel1_S1 (pf (F := Ideal) c) (grid0.coords t) 1 * 1024 + 1 * q = _
    rw [hy]
    show (c.val % 2 * 4 + (grid0.coords t 1).val) * 1024 + 1 * q = _
    rw [h1, one_mul]

theorem tm_val (n : ℕ) (h : n < 32) : (tm n).val = n := Nat.mod_eq_of_lt (by rw [N_0]; exact h)

/-- The finished product of output block `k` on device `c` as one sum over the device's rows. -/
theorem full_rd (V : Mem Ideal) (c : Dev nD) (k : ℕ) (hk : k < 16) (j : S1024x1024.Idx) :
    full (xb V) (yb V) c k j = ∑ p ∈ Finset.range 4096,
      rd (V c main_arg0) p ((k / 4 + 2 * (1 - c.val / 2)) % 4 * 1024 + (j 0).val) * rd (V c main_arg1) p ((c.val % 2 * 4 + k % 4) * 1024 + (j 1).val) := by
  have j0 : (j 0).val < 1024 := (j 0).isLt
  have j1 : (j 1).val < 1024 := (j 1).isLt
  rw [full_sum]
  refine Eq.trans ?_ (Finset.sum_range_add _ 2048 2048).symm
  congr 1 <;> refine Finset.sum_congr rfl fun p hp => ?_ <;> have hp := Finset.mem_range.1 hp
  · rw [xb_rd V c _ p _ hp j0, yb_rd V c _ p _ hp j1, tm_val _ (by omega),
      show 2 * k % 2 * 2048 + p = p by omega, show 2 * k / 8 = k / 4 by omega, show 2 * k / 2 = k by omega]
  · rw [xb_rd V c _ p _ hp j0, yb_rd V c _ p _ hp j1, tm_val _ (by omega),
      show (2 * k + 1) % 2 * 2048 + p = 2048 + p by omega, show (2 * k + 1) / 8 = k / 4 by omega, show (2 * k + 1) / 2 = k by omega]

end Cert.Cross

end

end
-- ==== Proof.Call1.lean ====
/-
  The second call: it spreads the stacked blocks over the device's rows of the result.
-/
module

public import proofs.«01_k».proof.Proof.Call0

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat BodyObligation)

set_option maxHeartbeats 1000000 in
/-- One step of the second call widens its block. -/
theorem run1 (c : Dev nD) (t : Fin grid1.N)
    (arg3 : Memref sig .tc .vmem S1x512x4096 .bf16) (h3 : arg3.IsWhole) (arg4 : Memref sig .tc .vmem S512x4096 .f32) (h4 : arg4.IsWhole)
    (x : S1x512x4096.Idx → Elt F .bf16) (y : S512x4096.Idx → Elt F .f32) :
    iprop(owns (c : Thread nD τ) arg3 fullShare x ∗ owns (c : Thread nD τ) arg4 fullShare y)
    ⊢ wp frame (wpE (defs₀ (F := F)) 𝒱₀ c none) Set.univ (cc1_body (F := F) (grid1.coords t) (Memref.whole main_v11) (Memref.isWhole_whole _) arg3 h3 arg4 h4)
      fun _ => (iprop(owns (c : Thread nD τ) arg3 fullShare x ∗ owns (c : Thread nD τ) arg4 fullShare (k1_pay1 x)) : sProp 𝕄) := by
  rw [cc1_body_eq_skeleton]
  unfold cc1_body_skel owns
  iintro ⟨⟨%fx, %hx, Hx⟩, ⟨%fy, %hy, Hy⟩⟩
  sl_exec
  rw [wp_ret]
  imodintro
  isplitl [Hx]
  · iexists fx; isplitr; · ipureintro; exact hx
    iexact Hx
  iexists _
  isplitr [Hy]; swap; · iexact Hy
  ipureintro
  refine (View.read_writes_full _ _ _ _ _).trans ?_
  refine congrArg k1_pay1 ?_
  exact (View.readAt_full _ _ _).trans hx

-- what the buffers hold when the calls begin, and the stacked blocks as the first call leaves them
variable (V : Mem F) (S : (c : Dev nD) → S2x2048x4096.Idx → Elt F .bf16)

/-- The second call's pipeline on device `c`. -/
abbrev cf1 (c : Dev nD) : Pipeline.Cfg sig Λ₀ := (pcfg1 (F := F)).at (adm c 1)

/-- The block of the stacked buffer that a step reads. -/
def sb (c : Dev nD) (t : Fin grid1.N) : S1x512x4096.Idx → Elt F .bf16 := ((cf1 (F := F) c).win 0 |>.blk t).view.read (Elt F) (S c)

/-- The second call: it reads the stacked buffer and writes the result. -/
def dat1 (c : Dev nD) : Dat τ (Elt F) Ix ℕ UU ℕ (cf1 (F := F) c) c where
  A
    | 0 => S c
    | 1 => V c main_v13
    | ⟨_ + 2, h⟩ => absurd h (Nat.not_lt.2 (Nat.le_add_left _ _))
  after
    | 0, t => sb S c t
    | 1, t => k1_pay1 (sb S c t)
    | ⟨_ + 2, h⟩, _ => absurd h (Nat.not_lt.2 (Nat.le_add_left _ _))
  Φ _ := iprop(table c ∗ Pipeline.scopedRest (pcfg1 (F := F)).spec c)
  q _ := fullShare
  owed _ := 0

theorem before1_0 (c : Dev nD) (t : Fin grid1.N) (d) : (dat1 V S c).before 0 t d = sb S c t :=
  ((dat1 V S c).before_in_eq_fetched 0 rfl (fun _ => rfl) (fun _ _ _ => rfl) (fun _ => rfl) t d).trans rfl

/-- Every point of the second call runs. -/
theorem body1 (c : Dev nD) : BodyObligation (dat1 V S c) (defs₀ (F := F)) 𝒱₀ 0 Set.univ := fun t => by
  rw [bigSep_W1, bigSep_W1]
  have hs := run1 c t (spec1_0.stage ((cf1 (F := F) c).slots t 0)) (hstage1_0 (((cf1 (F := F) c).slots t 0).cast nbuf1_0))
    (spec1_1.stage ((cf1 (F := F) c).slots t 1)) (hstage1_1 (((cf1 (F := F) c).slots t 1).cast nbuf1_1)) (sb S c t)
  show iprop((table c ∗ Pipeline.scopedRest (pcfg1 (F := F)).spec c) ∗ (dat1 V S c).owesAt 0 t.castSucc
    ∗ (∃ d, owns (c : Thread nD τ) (spec1_0.stage ((cf1 (F := F) c).slots t 0)) fullShare ((dat1 V S c).before 0 t d))
    ∗ (∃ d, owns (c : Thread nD τ) (spec1_1.stage ((cf1 (F := F) c).slots t 1)) fullShare ((dat1 V S c).before 1 t d)))
    ⊢ wp frame (wpE (defs₀ (F := F)) 𝒱₀ c none) Set.univ (cc1_body (F := F) (grid1.coords t) (Memref.whole main_v11) (Memref.isWhole_whole _)
      (spec1_0.stage ((cf1 (F := F) c).slots t 0)) (hstage1_0 (((cf1 (F := F) c).slots t 0).cast nbuf1_0))
      (spec1_1.stage ((cf1 (F := F) c).slots t 1)) (hstage1_1 (((cf1 (F := F) c).slots t 1).cast nbuf1_1))) fun _ =>
      iprop((table c ∗ Pipeline.scopedRest (pcfg1 (F := F)).spec c) ∗ (dat1 V S c).owesAt 0 t.succ
        ∗ owns (c : Thread nD τ) (spec1_0.stage ((cf1 (F := F) c).slots t 0)) fullShare (sb S c t)
        ∗ owns (c : Thread nD τ) (spec1_1.stage ((cf1 (F := F) c).slots t 1)) fullShare (k1_pay1 (sb S c t)))
  iintro ⟨HΦ, HO, ⟨%d, Hx⟩, ⟨%d', Hy⟩⟩
  rw [before1_0]
  ihave HO := (of_owesAt (dat1 V S c) t.castSucc (O := 0) rfl) $$ HO
  iapply (wp_wand_r frame (wpE (defs₀ (F := F)) 𝒱₀ c none) Set.univ)
  isplitl [Hx Hy]
  · iapply (hs _)
    isplitl [Hx]; · iexact Hx
    iexact Hy
  iintro %_ ⟨Hx, Hy⟩
  isplitl [HΦ]; · iexact HΦ
  isplitl [HO]
  · iapply (owesAt_of (dat1 V S c) t.succ (O := 0) rfl rfl) $$ HO
  isplitl [Hx]; · iexact Hx
  iexact Hy

end Cert.Cross

end

end
-- ==== Proof.Out.lean ====
/-
  What the second call leaves in the result, entry by entry.
-/
module

public import proofs.«01_k».proof.Proof.Call1
public import Idealize.ShloMosaic.Lib.Pipeline.Value

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat BodyObligation)

/-! ## Indices -/

/-- The entry at plane p, row r, column s of the stacked blocks. -/
def si (p r s : ℕ) (hp : p < 2) (hr : r < 2048) (hs : s < 4096) : S2x2048x4096.Idx := fun
  | 0 => ⟨p, hp⟩
  | 1 => ⟨r, hr⟩
  | 2 => ⟨s, hs⟩
  | ⟨_ + 3, h⟩ => absurd h (Nat.not_lt.2 (Nat.le_add_left _ _))

theorem si_ext {i : S2x2048x4096.Idx} {p r s : ℕ} {hp hr hs} (h0 : (i 0).val = p) (h1 : (i 1).val = r) (h2 : (i 2).val = s) : i = si p r s hp hr hs :=
  funext fun a => by
    match a with
    | 0 => exact Fin.ext h0
    | 1 => exact Fin.ext h1
    | 2 => exact Fin.ext h2

/-- The plane that holds a half of the result's columns on device `c`: its own blocks fill its own half. -/
def plane (c : Dev nD) (col : ℕ) : ℕ := if col / 4096 = c.val % 2 then 0 else 1
theorem plane_lt (c : Dev nD) (col : ℕ) : plane c col < 2 := by unfold plane; split <;> decide

variable (V : Mem F) (S : (c : Dev nD) → S2x2048x4096.Idx → Elt F .bf16)

/-- The result on device `c`, from the stacked blocks. -/
def out (c : Dev nD) : S2048x8192.Idx → Elt F .f32 := fun i =>
  FloatOps.extf .f32 bitsLt_bf16_f32 (S c (si (plane c (i 1).val) (i 0).val ((i 1).val % 4096) (plane_lt c _) (i 0).isLt (Nat.mod_lt _ (by decide))))

theorem coords1 : ∀ t : Fin grid1.N, (grid1.coords t 0).val = t.val / 4 ∧ (grid1.coords t 1).val = t.val % 4 := by decide +kernel

theorem flush_ne : ∀ (c : Dev nD) (t : Fin grid1.N) (h : t.val + 1 < grid1.N), ixO c (grid1.coords ⟨t.val + 1, h⟩) ≠ ixO c (grid1.coords t) := by decide +kernel

/-- Every step of the second call writes its block out. -/
theorem flush1 (c : Dev nD) (t : Fin grid1.N) : ((cf1 (F := F) c).win 1).flush t = true := by
  rw [Pipeline.Window.flush_eq_flushOf]
  unfold Pipeline.Window.flushOf
  show (true && (decide (t.val + 1 = grid1.N) || decide (∃ h : t.val + 1 < grid1.N,
    cc1_transform_1 inb_S2_S1_1 numel1_S1 (pf (F := F) c) (grid1.coords ⟨t.val + 1, h⟩) ≠ cc1_transform_1 inb_S2_S1_1 numel1_S1 (pf (F := F) c) (grid1.coords t)))) = true
  by_cases h : t.val + 1 = grid1.N
  · rw [decide_eq_true h]; rfl
  · have hx : ∃ h : t.val + 1 < grid1.N,
        cc1_transform_1 inb_S2_S1_1 numel1_S1 (pf (F := F) c) (grid1.coords ⟨t.val + 1, h⟩) ≠ cc1_transform_1 inb_S2_S1_1 numel1_S1 (pf (F := F) c) (grid1.coords t) :=
      ⟨by have := t.isLt; omega, by rw [ix_o, ix_o]; exact flush_ne c t _⟩
    rw [decide_eq_true hx, Bool.or_true]; rfl

theorem index_o (c : Dev nD) (t : Fin grid1.N) : ((cf1 (F := F) c).win 1).index t = ixO c (grid1.coords t) := ix_o c _

theorem index_i (t : Fin grid1.N) : cc1_transform_0 (grid1.coords t) = ![(grid1.coords t 0).val, (grid1.coords t 1).val, 0] := by
  revert t; decide +kernel

theorem flushed1 (c : Dev nD) (t : Fin grid1.N) :
    (dat1 V S c).flushed 1 t = ((cf1 (F := F) c).win 1 |>.blk t).view.read (Elt F) (out S c) := by
  have ho := ix_o (F := F) c (grid1.coords t)
  have hi := index_i t
  obtain ⟨c0, c1⟩ := coords1 t
  have e : k1_pay1 (sb S c t) = fun j : S512x4096.Idx => FloatOps.extf .f32 bitsLt_bf16_f32 (sb S c t (Fin.cons ⟨0, Nat.one_pos⟩ j)) := by
    funext j
    unfold k1_pay1
    exact congrArg (FloatOps.extf .f32 bitsLt_bf16_f32) (shapeCast_dropUnit_apply ![512, 4096] (sb S c t) shapeCasts_S1x512x4096_S512x4096 j)
  have hf : (dat1 V S c).flushed 1 t = k1_pay1 (sb S c t) := by
    unfold Dat.flushed
    rfl
  rw [hf, e]
  funext j
  have hj1 : (j 1).val < 4096 := (j 1).isLt
  have hj0 : (j 0).val < 512 := (j 0).isLt
  have hg : (grid1.coords t 0).val = 0 ∨ (grid1.coords t 0).val = 1 := by have := t.isLt; rw [c0]; have hN := N_1; omega
  have hc : c.val % 2 = 0 ∨ c.val % 2 = 1 := by omega
  refine congrArg (FloatOps.extf .f32 bitsLt_bf16_f32) (congrArg (S c) (si_ext ?_ ?_ ?_))
  · show cc1_transform_0 (grid1.coords t) 0 * 1 + 1 * 0 = plane c (cc1_transform_1 inb_S2_S1_1 numel1_S1 (pf (F := F) c) (grid1.coords t) 1 * 4096 + 1 * (j 1).val)
    rw [ho, hi]
    unfold plane
    show (grid1.coords t 0).val * 1 + 1 * 0 = if ((if (grid1.coords t 0).val = 0 then c.val % 2 else 1 - c.val % 2) * 4096 + 1 * (j 1).val) / 4096 = c.val % 2 then 0 else 1
    generalize (grid1.coords t 0).val = g at hg
    generalize c.val % 2 = r at hc
    by_cases h : g = 0
    · rw [if_pos h, if_pos (by omega)]; omega
    · rw [if_neg h, if_neg (by omega)]; omega
  · show cc1_transform_0 (grid1.coords t) 1 * 512 + 1 * (j 0).val = cc1_transform_1 inb_S2_S1_1 numel1_S1 (pf (F := F) c) (grid1.coords t) 0 * 512 + 1 * (j 0).val
    rw [ho, hi]; rfl
  · show cc1_transform_0 (grid1.coords t) 2 * 4096 + 1 * (j 1).val = (cc1_transform_1 inb_S2_S1_1 numel1_S1 (pf (F := F) c) (grid1.coords t) 1 * 4096 + 1 * (j 1).val) % 4096
    rw [hi]
    show 0 * 4096 + 1 * (j 1).val = _
    omega

theorem mem1 (c : Dev nD) (t : Fin grid1.N) (i : S2048x8192.Idx) :
    i ∈ ((cf1 (F := F) c).win 1 |>.blk t).view.set ↔ ∀ a, ixO c (grid1.coords t) a * S512x4096.size a ≤ (i a).val ∧ (i a).val < ixO c (grid1.coords t) a * S512x4096.size a + S512x4096.size a := by
  show i ∈ ((View.whole main_v13).slice (((cf1 (F := F) c).win 1).rect t)).set ↔ _
  set_option backward.isDefEq.respectTransparency false in
  rw [View.set_slice_whole, Rect.mem_set_unit, ← index_o (F := F)]
  rfl

theorem cover1 (c : Dev nD) (i : S2048x8192.Idx) :
    ∃ t : Fin (cf1 (F := F) c).N, ((cf1 (F := F) c).win 1).flush t = true ∧ i ∈ ((cf1 (F := F) c).win 1 |>.blk t).view.set := by
  have h0 : (i 0).val < 2048 := (i 0).isLt
  have h1 : (i 1).val < 8192 := (i 1).isLt
  have hp := plane_lt c (i 1).val
  have hlt : plane c (i 1).val * 4 + (i 0).val / 512 < grid1.N := by rw [N_1]; omega
  refine ⟨⟨plane c (i 1).val * 4 + (i 0).val / 512, hlt⟩, flush1 c _, (mem1 c _ i).2 fun a => ?_⟩
  obtain ⟨c0, c1⟩ := coords1 ⟨plane c (i 1).val * 4 + (i 0).val / 512, hlt⟩
  generalize grid1.coords ⟨plane c (i 1).val * 4 + (i 0).val / 512, hlt⟩ = g at *
  have hc : c.val % 2 = 0 ∨ c.val % 2 = 1 := by omega
  match a with
  | 0 =>
    show (g 1).val * 512 ≤ (i 0).val ∧ (i 0).val < (g 1).val * 512 + 512
    rw [c1]; dsimp only at *; omega
  | 1 =>
    show (if (g 0).val = 0 then c.val % 2 else 1 - c.val % 2) * 4096 ≤ (i 1).val ∧ (i 1).val < (if (g 0).val = 0 then c.val % 2 else 1 - c.val % 2) * 4096 + 4096
    have hq : (g 0).val = plane c (i 1).val := by rw [c0]; dsimp only; omega
    rw [hq]
    by_cases he : (i 1).val / 4096 = c.val % 2
    · rw [show plane c (i 1).val = 0 from if_pos he, if_pos rfl]; omega
    · rw [show plane c (i 1).val = 1 from if_neg he, if_neg (by decide)]; omega

/-- The result after the second call. -/
theorem arr1 (c : Dev nD) : (dat1 V S c).arrAt 1 (cf1 (F := F) c).N = out S c :=
  (dat1 V S c).arrAt_eq_of_cover 1 (out S c) (fun t _ => flushed1 V S c t) (cover1 c)

end Cert.Cross

end

end
-- ==== Proof.Sides.lean ====
/-
  The two calls' data side by side, and their arrays and tables as single buffers.
-/
module

public import proofs.«01_k».proof.Proof.Out

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat BodyObligation)

/-- Both calls at each device's tables. -/
abbrev pD : Dev nD → Fin 2 → Pipeline.Cfg sig Λ₀ := Pipeline.pinD (pcfgs (F := F)) adm

variable (V : Mem F) (S : (c : Dev nD) → S2x2048x4096.Idx → Elt F .bf16)

/-- The data of both calls. -/
def pdats : (p : Fin 2) → (c : Dev nD) → Dat τ (Elt F) Ix ℕ UU ℕ (pD (F := F) c p) c
  | 0 => dat0 V
  | 1 => dat1 V S

/-- No two staging semaphores are the same. -/
theorem cells_inj : Function.Injective (Pipeline.PerCore.cellOf (nD := nD) (τ := τ) (pD (F := F))) :=
  Pipeline.PerCore.cellOf_injective _
    (fun c p => by
      match p with
      | 0 => exact Pipeline.specSemsDistinct_of_nodup _ (semsDistinct 0)
      | 1 => exact Pipeline.specSemsDistinct_of_nodup _ (semsDistinct 1))
    (fun c p p' h => by
      match p, p' with
      | 0, 0 => exact absurd rfl h
      | 0, 1 => exact Pipeline.specSemsDisjoint_of_disjoint _ _ fun _ hd hd' => List.forall_iff_forall_mem.1 (semsDisjoint 0 1 h) _ hd hd'
      | 1, 0 => exact Pipeline.specSemsDisjoint_of_disjoint _ _ fun _ hd hd' => List.forall_iff_forall_mem.1 (semsDisjoint 1 0 h) _ hd hd'
      | 1, 1 => exact absurd rfl h)

theorem pref0 (c : Dev nD) : (Pipeline.prefHeld (Ix := Ix) (Name := ℕ) (U := UU) (Lvl := ℕ) (pcfgs (F := F) 0).pre c (fun _ => fullShare) (adm c 0).1 : sProp 𝕄) = table c :=
  BI.bigSep_univ_eq_bigSepL (I := Fin 1) [0] (by decide) (by decide) _
theorem pref1 (c : Dev nD) : (Pipeline.prefHeld (Ix := Ix) (Name := ℕ) (U := UU) (Lvl := ℕ) (pcfgs (F := F) 1).pre c (fun _ => fullShare) (adm c 1).1 : sProp 𝕄) = table c :=
  BI.bigSep_univ_eq_bigSepL (I := Fin 1) [0] (by decide) (by decide) _

theorem arrays0 (c : Dev nD) (Fa) : ((pdats V S 0 c).arrays Fa : sProp 𝕄)
    = iprop(((c : Thread nD τ).loc main_arg0 ↦{fullShare} Fa 0) ∗ ((c : Thread nD τ).loc main_arg1 ↦{fullShare} Fa 1)) :=
  (Pipeline.PerCore.arrays_eq (pD (F := F)) (pdats V S) 0 c arr_whole0 (by intro w; match w with | 0 => rfl | 1 => rfl) Fa).trans (bigSep_W0 _)
theorem arrays1 (c : Dev nD) (Fa) : ((pdats V S 1 c).arrays Fa : sProp 𝕄)
    = iprop(((c : Thread nD τ).loc main_v12_0 ↦{fullShare} Fa 0) ∗ ((c : Thread nD τ).loc main_v13 ↦{fullShare} Fa 1)) :=
  (Pipeline.PerCore.arrays_eq (pD (F := F)) (pdats V S) 1 c arr_whole1 (by intro w; match w with | 0 => rfl | 1 => rfl) Fa).trans (bigSep_W1 _)

/-- The device's buffers that the calls use, out of all of them. -/
theorem bufs_of (c : Dev nD) (W : (b : Ref sig .tc) → Buf (Elt F) ((c : Thread nD τ).loc b)) :
    (unscopedBufs c W : sProp 𝕄) ⊢ iprop(((c : Thread nD τ).loc main_arg0 ↦{fullShare} W main_arg0) ∗ ((c : Thread nD τ).loc main_arg1 ↦{fullShare} W main_arg1)
      ∗ ((c : Thread nD τ).loc main_v11 ↦{fullShare} W main_v11) ∗ ((c : Thread nD τ).loc main_v12_0 ↦{fullShare} W main_v12_0)
      ∗ ((c : Thread nD τ).loc main_v12_1 ↦{fullShare} W main_v12_1) ∗ ((c : Thread nD τ).loc main_v12_2 ↦{fullShare} W main_v12_2)
      ∗ ((c : Thread nD τ).loc main_v13 ↦{fullShare} W main_v13)) := by
  unfold unscopedBufs
  rw [bigSep_eq_bigSepL_of_eq [main_arg0, main_arg1, main_v11, main_v12_0, main_v12_1, main_v12_2, main_v13,
    main_c, main_c_0, main_v1, main_v2, main_v3, main_v4, main_c_1, main_c_2, main_v5, main_v6, main_v7, main_v8, main_v9, main_v10] (by decide) (by decide)]
  show iprop(_ ∗ _ ∗ _ ∗ _ ∗ _ ∗ _ ∗ _ ∗ _) ⊢ _
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

end Cert.Cross

end

end
-- ==== Proof.Blocks.lean ====
/-
  The three buffers of blocks, as their blocks: splitting them, and joining the stacked one.
-/
module

public import proofs.«01_k».proof.Proof.Sides

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-! ## Owning a squeezed buffer -/

/-- A memref with its unit axes dropped is owned at `X` re-indexed exactly if the memref is owned at `X`. -/
theorem owns_drop (c : Dev nD) {sp : Space} {s s₁ : Shape} {e : EltTy} (M : Memref sig .tc sp s e) (h : s.Squeezes s₁) (q : PosShare TreeShare) (X : s.Idx → Elt F e) :
    (owns (c : Thread nD τ) (M.squeeze s₁ h) q (fun j => X (Shape.reshapeEquiv h.numel_eq j)) : sProp 𝕄) = owns (c : Thread nD τ) M q X := by
  have hS : (M.squeeze s₁ h).view.set = M.view.set := View.set_reshape (v := M.view) h.numel_eq
  have hr : ∀ f, (M.squeeze s₁ h).view.read (Elt F) f = fun j => M.view.read (Elt F) f (Shape.reshapeEquiv h.numel_eq j) := fun f => by
    funext j
    show (M.view.reshape s₁ h.numel_eq).read (Elt F) f j = _
    rfl
  unfold owns
  congr 1
  funext f
  have h1 : ((M.squeeze s₁ h).view.read (Elt F) f = fun j => X (Shape.reshapeEquiv h.numel_eq j)) = (M.view.read (Elt F) f = X) := by
    rw [hr f]
    refine propext ⟨fun hh => funext fun z => ?_, fun hh => by rw [hh]⟩
    have := congrFun hh ((Shape.reshapeEquiv h.numel_eq).symm z)
    simpa using this
  rw [h1, hS]

/-! ## The blocks cover -/

abbrev rB (b : Fin 8) : Rect S2048x4096 := Rect.unit (s := S2048x4096) (off b) S1024x1024.size (off_inb b)
abbrev rS (t : Fin 2 × Fin 8) : Rect S2x2048x4096 := Rect.unit (s := S2x2048x4096) (off3 t.1 t.2) S1x1024x1024.size (off3_inb t.1 t.2)

theorem mem_rB (b : Fin 8) (i : S2048x4096.Idx) : i ∈ (rB b).set ↔ (i 0).val / 1024 = b.val / 4 ∧ (i 1).val / 1024 = b.val % 4 := by
  rw [Rect.mem_set_unit]
  refine ⟨fun h => ?_, fun h a => ?_⟩
  · have h0 : 1024 * (b.val / 4) ≤ (i 0).val ∧ (i 0).val < 1024 * (b.val / 4) + 1024 := h 0
    have h1 : 1024 * (b.val % 4) ≤ (i 1).val ∧ (i 1).val < 1024 * (b.val % 4) + 1024 := h 1
    omega
  · match a with
    | 0 => show 1024 * (b.val / 4) ≤ (i 0).val ∧ (i 0).val < 1024 * (b.val / 4) + 1024; omega
    | 1 => show 1024 * (b.val % 4) ≤ (i 1).val ∧ (i 1).val < 1024 * (b.val % 4) + 1024; omega

theorem mem_rS (t : Fin 2 × Fin 8) (i : S2x2048x4096.Idx) :
    i ∈ (rS t).set ↔ (i 0).val = t.1.val ∧ (i 1).val / 1024 = t.2.val / 4 ∧ (i 2).val / 1024 = t.2.val % 4 := by
  rw [Rect.mem_set_unit]
  refine ⟨fun h => ?_, fun h a => ?_⟩
  · have h0 : t.1.val ≤ (i 0).val ∧ (i 0).val < t.1.val + 1 := h 0
    have h1 : 1024 * (t.2.val / 4) ≤ (i 1).val ∧ (i 1).val < 1024 * (t.2.val / 4) + 1024 := h 1
    have h2 : 1024 * (t.2.val % 4) ≤ (i 2).val ∧ (i 2).val < 1024 * (t.2.val % 4) + 1024 := h 2
    omega
  · match a with
    | 0 => show t.1.val ≤ (i 0).val ∧ (i 0).val < t.1.val + 1; omega
    | 1 => show 1024 * (t.2.val / 4) ≤ (i 1).val ∧ (i 1).val < 1024 * (t.2.val / 4) + 1024; omega
    | 2 => show 1024 * (t.2.val % 4) ≤ (i 2).val ∧ (i 2).val < 1024 * (t.2.val % 4) + 1024; omega

/-- The number of the block at a row and a column. -/
def blk (r s : ℕ) (hr : r < 2048) (hs : s < 4096) : Fin 8 := ⟨4 * (r / 1024) + s / 1024, by omega⟩

theorem rB_disj (b b' : Fin 8) (h : b ≠ b') : Disjoint (rB b).set (rB b').set :=
  Finset.disjoint_left.2 fun i hi hi' => h (Fin.ext (by
    obtain ⟨h0, h1⟩ := (mem_rB b i).1 hi
    obtain ⟨h2, h3⟩ := (mem_rB b' i).1 hi'
    omega))
theorem rB_cover : (Finset.univ : Finset (Fin 8)).biUnion (fun b => (rB b).set) = Finset.univ :=
  Finset.eq_univ_iff_forall.2 fun i => Finset.mem_biUnion.2 ⟨blk _ _ (i 0).isLt (i 1).isLt, Finset.mem_univ _, (mem_rB _ i).2 (by
    have h0 : (i 0).val < 2048 := (i 0).isLt
    have h1 : (i 1).val < 4096 := (i 1).isLt
    unfold blk; show _ = (4 * ((i 0).val / 1024) + (i 1).val / 1024) / 4 ∧ _ = (4 * ((i 0).val / 1024) + (i 1).val / 1024) % 4; omega)⟩
theorem rS_disj (t t' : Fin 2 × Fin 8) (h : t ≠ t') : Disjoint (rS t).set (rS t').set :=
  Finset.disjoint_left.2 fun i hi hi' => h (by
    obtain ⟨h0, h1, h2⟩ := (mem_rS t i).1 hi
    obtain ⟨h3, h4, h5⟩ := (mem_rS t' i).1 hi'
    exact Prod.ext (Fin.ext (by omega)) (Fin.ext (by omega)))
theorem rS_cover : (Finset.univ : Finset (Fin 2 × Fin 8)).biUnion (fun t => (rS t).set) = Finset.univ :=
  Finset.eq_univ_iff_forall.2 fun i => Finset.mem_biUnion.2 ⟨(⟨(i 0).val, (i 0).isLt⟩, blk _ _ (i 1).isLt (i 2).isLt), Finset.mem_univ _, (mem_rS _ i).2 (by
    have h0 : (i 1).val < 2048 := (i 1).isLt
    have h1 : (i 2).val < 4096 := (i 2).isLt
    unfold blk
    show (i 0).val = (i 0).val ∧ _ = (4 * ((i 1).val / 1024) + (i 2).val / 1024) / 4 ∧ _ = (4 * ((i 1).val / 1024) + (i 2).val / 1024) % 4
    omega)⟩

/-! ## Splitting -/

/-- The landing buffer is its eight blocks. -/
theorem split_rx (c : Dev nD) (f : Buf (Elt F) ((c : Thread nD τ).loc main_v12_1)) :
    ((((c : Thread nD τ).loc main_v12_1) ↦{fullShare} f) : sProp 𝕄) ⊢ bigSep Finset.univ fun b : Fin 8 => some' c (rxB b) := by
  have key : ∀ b : Fin 8, (owns (c : Thread nD τ) (rxB b) fullShare (fun j => f ((rB b).emb j)) : sProp 𝕄) ⊢ some' c (rxB b) := fun b => by
    unfold some'; iintro H; iexists _; iexact H
  exact ((Entails.of_eq (owns_whole (c : Thread nD τ) main_v12_1 fullShare f).symm).trans <| owns_rects (c : Thread nD τ) (Memref.whole main_v12_1) fullShare rB (fun _ _ => rfl) rB_disj rB_cover f).trans
    (bigSep_mono fun b _ => key b)

/-- The staging buffer is its eight blocks. -/
theorem split_st (c : Dev nD) (f : Buf (Elt F) ((c : Thread nD τ).loc main_v12_2)) :
    ((((c : Thread nD τ).loc main_v12_2) ↦{fullShare} f) : sProp 𝕄) ⊢ bigSep Finset.univ fun b : Fin 8 => some' c (stB b) := by
  have key : ∀ b : Fin 8, (owns (c : Thread nD τ) (stB b) fullShare (fun j => f ((rB b).emb j)) : sProp 𝕄) ⊢ some' c (stB b) := fun b => by
    unfold some'; iintro H; iexists _; iexact H
  exact ((Entails.of_eq (owns_whole (c : Thread nD τ) main_v12_2 fullShare f).symm).trans <| owns_rects (c : Thread nD τ) (Memref.whole main_v12_2) fullShare rB (fun _ _ => rfl) rB_disj rB_cover f).trans
    (bigSep_mono fun b _ => key b)

/-- The stacked buffer is the eight blocks of each plane. -/
theorem split_sk (c : Dev nD) (f : Buf (Elt F) ((c : Thread nD τ).loc main_v12_0)) :
    ((((c : Thread nD τ).loc main_v12_0) ↦{fullShare} f) : sProp 𝕄)
      ⊢ iprop((bigSep Finset.univ fun b : Fin 8 => some' c (skB 0 b)) ∗ bigSep Finset.univ fun b : Fin 8 => some' c (skB 1 b)) := by
  have key : ∀ t : Fin 2 × Fin 8, (owns (c : Thread nD τ) ((Memref.whole main_v12_0).slice (rS t) (fun _ => rfl)) fullShare (fun j => f ((rS t).emb j)) : sProp 𝕄)
      ⊢ some' c (skB t.1 t.2) := fun t => by
    unfold some'
    rw [← owns_drop c ((Memref.whole main_v12_0).slice (rS t) (fun _ => rfl)) squeezes_S1x1024x1024_S1024x1024]
    iintro H; iexists _; iexact H
  have e : (bigSep Finset.univ (fun t : Fin 2 × Fin 8 => some' (F := F) c (skB t.1 t.2)) : sProp 𝕄)
      = iprop((bigSep Finset.univ fun b : Fin 8 => some' c (skB 0 b)) ∗ bigSep Finset.univ fun b : Fin 8 => some' c (skB 1 b)) := by
    rw [BI.bigSep_univ_prod, BI.bigSep_univ_two]
  rw [← e]
  exact ((Entails.of_eq (owns_whole (c : Thread nD τ) main_v12_0 fullShare f).symm).trans <| owns_rects (c : Thread nD τ) (Memref.whole main_v12_0) fullShare rS (fun _ _ => rfl) rS_disj rS_cover f).trans
    (bigSep_mono fun t _ => key t)

/-! ## Joining -/

/-- The entry at row r, column s of a block. -/
def bi (r s : ℕ) (hr : r < 1024) (hs : s < 1024) : S1024x1024.Idx := fun
  | 0 => ⟨r, hr⟩
  | 1 => ⟨s, hs⟩
  | ⟨_ + 2, h⟩ => absurd h (Nat.not_lt.2 (Nat.le_add_left _ _))

theorem bi_ext {i : S1024x1024.Idx} {r s : ℕ} {hr hs} (h0 : (i 0).val = r) (h1 : (i 1).val = s) : i = bi r s hr hs :=
  funext fun a => by
    match a with
    | 0 => exact Fin.ext h0
    | 1 => exact Fin.ext h1

/-- Two planes of eight blocks each, stacked. -/
def stack (P : Fin 2 → Fin 8 → Blk F) : S2x2048x4096.Idx → Elt F .bf16 := fun i =>
  P ⟨(i 0).val, (i 0).isLt⟩ (blk (i 1).val (i 2).val (i 1).isLt (i 2).isLt)
    (bi ((i 1).val % 1024) ((i 2).val % 1024) (Nat.mod_lt _ (by decide)) (Nat.mod_lt _ (by decide)))

theorem stack_blk (P : Fin 2 → Fin 8 → Blk F) (t : Fin 2 × Fin 8) :
    (fun j => stack P ((rS t).emb (Shape.reshapeEquiv squeezes_S1x1024x1024_S1024x1024.numel_eq j))) = P t.1 t.2 := by
  funext j
  have hj0 : (j 0).val < 1024 := (j 0).isLt
  have hj1 : (j 1).val < 1024 := (j 1).isLt
  have hr : Shape.reshapeEquiv (s := S1x1024x1024) squeezes_S1x1024x1024_S1024x1024.numel_eq j = Fin.cons ⟨0, Nat.one_pos⟩ j :=
    Shape.reshapeEquiv_cons_one (d := ![1024, 1024]) _ _
  rw [hr]
  have e0 : ((rS t).emb (Fin.cons ⟨0, Nat.one_pos⟩ j : S1x1024x1024.Idx) 0).val = t.1.val := by rw [Rect.emb_apply]; show t.1.val + 1 * 0 = _; omega
  have e1 : ((rS t).emb (Fin.cons ⟨0, Nat.one_pos⟩ j : S1x1024x1024.Idx) 1).val = 1024 * (t.2.val / 4) + (j 0).val := by rw [Rect.emb_apply]; show 1024 * (t.2.val / 4) + 1 * (j 0).val = _; omega
  have e2 : ((rS t).emb (Fin.cons ⟨0, Nat.one_pos⟩ j : S1x1024x1024.Idx) 2).val = 1024 * (t.2.val % 4) + (j 1).val := by rw [Rect.emb_apply]; show 1024 * (t.2.val % 4) + 1 * (j 1).val = _; omega
  unfold stack
  refine congr (congr (congrArg P (Fin.ext e0)) (Fin.ext ?_)) (bi_ext ?_ ?_).symm
  · unfold blk; show 4 * (_ / 1024) + _ / 1024 = _; rw [e1, e2]; omega
  · rw [e1]; omega
  · rw [e2]; omega

/-- The eight blocks of each plane are the stacked buffer. -/
theorem join_sk (c : Dev nD) (P : Fin 2 → Fin 8 → Blk F) :
    (iprop((bigSep Finset.univ fun b : Fin 8 => owns (c : Thread nD τ) (skB 0 b) fullShare (P 0 b)) ∗ bigSep Finset.univ fun b : Fin 8 => owns (c : Thread nD τ) (skB 1 b) fullShare (P 1 b)) : sProp 𝕄)
      ⊢ (((c : Thread nD τ).loc main_v12_0) ↦{fullShare} (stack P : Buf (Elt F) ((c : Thread nD τ).loc main_v12_0))) := by
  have key : ∀ t : Fin 2 × Fin 8, (owns (c : Thread nD τ) (skB t.1 t.2) fullShare (P t.1 t.2) : sProp 𝕄)
      ⊢ owns (c : Thread nD τ) ((Memref.whole main_v12_0).slice (rS t) (fun _ => rfl)) fullShare (fun j => stack P ((rS t).emb j)) := fun t => by
    rw [← owns_drop c ((Memref.whole main_v12_0).slice (rS t) (fun _ => rfl)) squeezes_S1x1024x1024_S1024x1024, ← stack_blk P t]
  refine BIBase.Entails.trans ?_ ((bigSep_mono fun t _ => key t).trans
    ((owns_of_rects (c : Thread nD τ) (Memref.whole main_v12_0) fullShare rS (fun _ _ => rfl) rS_disj rS_cover (stack P)).trans
      (Entails.of_eq (owns_whole (c : Thread nD τ) main_v12_0 fullShare _))))
  exact Entails.of_eq (by rw [BI.bigSep_univ_prod, BI.bigSep_univ_two])

end Cert.Cross

end

end
-- ==== Proof.Host.lean ====
/-
  What the prologue computes: each device's table.
-/
module

public import proofs.«01_k».proof.Proof.Blocks
public import proofs.«01_k».proof.Proof.Gen.KernelIdeal.Regions

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-- The table the prologue computes, from the device's number. -/
def tab (c : Dev nD) : S2.Idx → Elt F .i32 :=
  concatenate S2 0 [⟨S1, broadcastInDim S1 ![] bcast_S_S1 (Host.remui (Host.divui (constantI S_ 32 (Dev.word c)) (constantI S_ 32 2#32)) (constantI S_ 32 2#32) : S_.Idx → Elt F .i32)⟩,
    ⟨S1, broadcastInDim S1 ![] bcast_S_S1 (Host.remui (Host.divui (constantI S_ 32 (Dev.word c)) (constantI S_ 32 1#32)) (constantI S_ 32 2#32) : S_.Idx → Elt F .i32)⟩] concatenates_S1_S1_S2_d0

theorem tab_bits : ∀ (c : Dev nD) (i : S2.Idx), tab (F := Bits) c i = tb c i := by decide +kernel
theorem tab_eq (c : Dev nD) : tab (F := F) c = tb c := funext fun i => Eq.trans (by rfl) (tab_bits c i)

variable (m : (ℓ : Loc nD τ sig) → Buf (Elt F) ℓ)

/-- After the prologue, the table is in place. -/
theorem v11 (c : Dev nD) : V1 m c main_v11 = tb (F := F) c := by
  rw [← tab_eq]
  unfold V1 hostOps0
  rfl

end Cert.Cross

end

end
-- ==== Proof.Open.lean ====
/-
  Into and out of the first call: the exchange cells opened, the buffers split; and all of it back at the end.
-/
module

public import proofs.«01_k».proof.Proof.Host

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

omit [FloatOps F] in
theorem zip {I : Type} [Fintype I] {Φ Ψ : I → sProp 𝕄} : (iprop(bigSep Finset.univ Φ ∗ bigSep Finset.univ Ψ) : sProp 𝕄) ⊢ bigSep Finset.univ fun i => iprop(Φ i ∗ Ψ i) :=
  Entails.of_eq (BI.bigSep_sep _ _ _).symm
omit [FloatOps F] in
theorem unzip {I : Type} [Fintype I] {Φ Ψ : I → sProp 𝕄} : (bigSep Finset.univ (fun i => iprop(Φ i ∗ Ψ i)) : sProp 𝕄) ⊢ iprop(bigSep Finset.univ Φ ∗ bigSep Finset.univ Ψ) :=
  Entails.of_eq (BI.bigSep_sep _ _ _)

/-! ## The first call's own semaphores -/

/-- The three semaphores of a device's own copies, and the thirty-two of the exchanges. -/
def osem : Fin 3 ⊕ Fin 32 → SemLoc sig := Sum.elim (fun k => .dma (cpS k)) (fun k => .dma (exS k))

theorem osem_ok : Pipeline.OwnSemFacts spec0 osem := by decide +kernel

/-- The thirty-two, eight at a time. -/
theorem four (Φ : Fin 32 → sProp 𝕄) : (bigSep Finset.univ Φ : sProp 𝕄)
    = iprop((bigSep Finset.univ fun b : Fin 8 => Φ (kxs b)) ∗ (bigSep Finset.univ fun b : Fin 8 => Φ (kxr b))
      ∗ (bigSep Finset.univ fun b : Fin 8 => Φ (kys b)) ∗ (bigSep Finset.univ fun b : Fin 8 => Φ (kyr b))) := by
  rw [BI.bigSep_univ_equiv (finProdFinEquiv : Fin 4 × Fin 8 ≃ Fin 32), BI.bigSep_univ_prod, BI.bigSep_univ_eq_bigSepL (I := Fin 4) [0, 1, 2, 3] (by decide) (by decide)]
  have e0 : ∀ b : Fin 8, finProdFinEquiv ((0 : Fin 4), b) = kxs b := by decide
  have e1 : ∀ b : Fin 8, finProdFinEquiv ((1 : Fin 4), b) = kxr b := by decide
  have e2 : ∀ b : Fin 8, finProdFinEquiv ((2 : Fin 4), b) = kys b := by decide
  have e3 : ∀ b : Fin 8, finProdFinEquiv ((3 : Fin 4), b) = kyr b := by decide
  show iprop((bigSep Finset.univ fun b : Fin 8 => Φ (finProdFinEquiv ((0 : Fin 4), b))) ∗ (bigSep Finset.univ fun b : Fin 8 => Φ (finProdFinEquiv ((1 : Fin 4), b)))
      ∗ (bigSep Finset.univ fun b : Fin 8 => Φ (finProdFinEquiv ((2 : Fin 4), b))) ∗ (bigSep Finset.univ fun b : Fin 8 => Φ (finProdFinEquiv ((3 : Fin 4), b)))) = _
  simp only [e0, e1, e2, e3]

theorem ownSems_eq (c : Dev nD) : (Pipeline.ownSems0 osem c : sProp 𝕄) = iprop(cps c ∗ bigSep Finset.univ fun k : Fin 32 => semVal (exCell c k) 0) := by
  unfold Pipeline.ownSems0 cps
  rw [BI.bigSep_univ_sum]
  refine congrArg₂ _ ?_ rfl
  exact BI.bigSep_univ_eq_bigSepL (I := Fin 3) [0, 1, 2] (by decide) (by decide) _

variable (X Q : Dev nD → Fin 8 → Blk F)

/-- All of a device's exchange cells opened at once. -/
theorem opened (K : GSem nD τ sig → ℕ) (c : Dev nD) :
    (iprop(allInv X Q K ∗ bigSep Finset.univ fun k : Fin 32 => iprop(openTok ER (exCell c k) ∗ semVal (exCell c k) 0)) : sProp 𝕄)
      ⊢ |={Set.univ}=> bigSep Finset.univ fun k : Fin 32 => iprop(atPos ER (exCell c k) 0 ∅ 0 ∗ reached ER (exCell c k) 0) := by
  refine BIBase.Entails.trans (bigSep_with_persistent (R := allInv X Q K) (Ψ := fun k : Fin 32 => iprop(|={Set.univ}=> (atPos ER (exCell c k) 0 ∅ 0 ∗ reached ER (exCell c k) 0))) fun k _ => ?_) (bigSep_fupd _ _)
  iintro ⟨HI, Ho, Hv⟩
  iapply (Rounds.cell_open ER (Rd X Q) (g := exCell c k) (Set.mem_univ (K (exCell c k))))
  isplitl [HI]; · iapply (inv_at X Q K (ex_mem c k)) $$ HI
  isplitl [Ho]; · iexact Ho
  iexact Hv

/-! ## From launch to the first step -/

/-- What launch gives a device for each block of the two exchanges. -/
def dX (c : Dev nD) (b : Fin 8) : sProp 𝕄 := iprop(dutyTok ER (sxsCell c b) 0 true ∗ dutyTok ER (sxrCell (ox c) b) 0 true)
def dY (c : Dev nD) (b : Fin 8) : sProp 𝕄 :=
  iprop(dutyTok ER (sysCell c b) 0 true ∗ dutyTok ER (syrCell (oy c) b) 0 true ∗ cred (tallyAt (sxrCell c b) 1 N) ∗ cred (tallyAt (syrCell c b) 1 N))
/-- What launch gives a device for the barriers. -/
def dB (c : Dev nD) : sProp 𝕄 :=
  iprop(atPos ER (barCell c) 0 ∅ 0 ∗ cred (tallyAt (barCell c) 1 2)
    ∗ dutyTok ER (barCell (ox c)) 0 true ∗ reached ER (barCell (ox c)) 0 ∗ dutyTok ER (barCell (oy c)) 0 false ∗ reached ER (barCell (oy c)) 0)
/-- What launch gives a device, its exchange cells still to be opened. -/
def dorm (c : Dev nD) : sProp 𝕄 :=
  iprop(dB c ∗ (bigSep Finset.univ (dX (F := F) c)) ∗ (bigSep Finset.univ (dY (F := F) c)) ∗ bigSep Finset.univ fun k : Fin 32 => openTok ER (exCell c k))

/-- With its cells opened and its buffers split into blocks, a device is ready for the first step. -/
theorem ready (c : Dev nD) : (iprop(dB c ∗ (bigSep Finset.univ (dX (F := F) c)) ∗ (bigSep Finset.univ (dY (F := F) c))
      ∗ (bigSep Finset.univ fun k : Fin 32 => iprop(atPos ER (exCell c k) 0 ∅ 0 ∗ reached ER (exCell c k) 0))
      ∗ (bigSep Finset.univ fun b : Fin 8 => some' c (rxB b)) ∗ (bigSep Finset.univ fun b : Fin 8 => some' c (stB b))
      ∗ (bigSep Finset.univ fun b : Fin 8 => some' c (skB 0 b)) ∗ (bigSep Finset.univ fun b : Fin 8 => some' c (skB 1 b))) : sProp 𝕄) ⊢ start c := by
  rw [four]
  simp only [sxs_cell, sxr_cell, sys_cell, syr_cell]
  have kX : ∀ b : Fin 8, (iprop((atPos ER (sxsCell c b) 0 ∅ 0 ∗ reached ER (sxsCell c b) 0) ∗ dX c b ∗ some' c (stB b)) : sProp 𝕄) ⊢ X00 c b := fun b => by
    unfold X00 dX
    iintro ⟨⟨H1, H2⟩, ⟨H3, H4⟩, H5⟩
    isplitl [H1]; · iexact H1
    isplitl [H5]; · iexact H5
    isplitl [H3]; · iexact H3
    isplitl [H2]; · iexact H2
    iexact H4
  have kY : ∀ b : Fin 8, (iprop(atPos ER (sxrCell c b) 0 ∅ 0 ∗ (atPos ER (sysCell c b) 0 ∅ 0 ∗ reached ER (sysCell c b) 0) ∗ atPos ER (syrCell c b) 0 ∅ 0 ∗ dY c b ∗ some' c (skB 0 b)) : sProp 𝕄) ⊢ Y00 c b := fun b => by
    unfold Y00 dY
    iintro ⟨H1, ⟨H2, H3⟩, H4, ⟨H5, H6, H7, H8⟩, H9⟩
    isplitl [H1 H7]
    · isplitl [H1]; · iexact H1
      iexact H7
    isplitl [H9]; · iexact H9
    isplitl [H5]; · iexact H5
    isplitl [H3]; · iexact H3
    isplitl [H6]; · iexact H6
    isplitl [H2]; · iexact H2
    isplitl [H4]; · iexact H4
    iexact H8
  have kX' : _ ⊢ (bigSep Finset.univ (X00 (F := F) c) : sProp 𝕄) := bigSep_mono fun b _ => kX b
  have kY' : _ ⊢ (bigSep Finset.univ (Y00 (F := F) c) : sProp 𝕄) := bigSep_mono fun b _ => kY b
  unfold start
  iintro ⟨HB, HX, HY, ⟨H1, H2, H3, H4⟩, Hrx, Hst, Hs0, Hs1⟩
  ihave H2' := unzip $$ H2
  icases H2' with ⟨H2, R2⟩
  ihave H4' := unzip $$ H4
  icases H4' with ⟨H4, R4⟩
  isplitl [HB R2 R4 Hrx Hs1]
  · unfold dB barPay
    icases HB with ⟨B1, B2, B3, B4, B5, B6⟩
    isplitl [B1]; · iexact B1
    isplitl [B2]; · iexact B2
    isplitl [B3]; · iexact B3
    isplitl [B4]; · iexact B4
    isplitl [B5]; · iexact B5
    isplitl [B6]; · iexact B6
    isplitl [R2 Hrx]
    · iapply zip
      isplitl [Hrx]; · iexact Hrx
      iexact R2
    iapply zip
    isplitl [Hs1]; · iexact Hs1
    iexact R4
  isplitl [H1 HX Hst]
  · iapply kX'
    iapply zip
    isplitl [H1]; · iexact H1
    iapply zip
    isplitl [HX]; · iexact HX
    iexact Hst
  iapply kY'
  iapply zip
  isplitl [H2]; · iexact H2
  iapply zip
  isplitl [H3]; · iexact H3
  iapply zip
  isplitl [H4]; · iexact H4
  iapply zip
  isplitl [HY]; · iexact HY
  iexact Hs0

/-! ## After the last step -/

variable (xb yb : Dev nD → Fin grid0.N → InBlk F)

/-- What the stacked buffer of a device holds after the first call: its own finished blocks, then its neighbour's. -/
def stk (c : Dev nD) : S2x2048x4096.Idx → Elt F .bf16 := stack ![QQ xb yb c, QQ xb yb (oy c)]

/-- After the last step all counters are zero and the stacked buffer is whole. -/
theorem done (c : Dev nD) : (fin xb yb c : sProp 𝕄) ⊢ iprop(semVal (barCell c) 0 ∗ (bigSep Finset.univ fun k : Fin 32 => semVal (exCell c k) 0)
    ∗ (((c : Thread nD τ).loc main_v12_0) ↦{fullShare} (stk xb yb c : Buf (Elt F) ((c : Thread nD τ).loc main_v12_0)))) := by
  rw [four]
  simp only [sxs_cell, sxr_cell, sys_cell, syr_cell]
  have kG : ∀ b : Fin 8, (gone (QQ xb yb) c b : sProp 𝕄) ⊢ iprop(semVal (sxsCell c b) 0 ∗ semVal (sysCell c b) 0 ∗ semVal (syrCell c b) 0
      ∗ owns (c : Thread nD τ) (skB 0 b) fullShare (QQ xb yb c b) ∗ owns (c : Thread nD τ) (skB 1 b) fullShare (QQ xb yb (oy c) b)) := fun b => by
    unfold gone
    iintro ⟨⟨H1, -⟩, ⟨H2, H3⟩, ⟨H4, H5⟩⟩
    isplitl [H1]; · iexact H1
    isplitl [H2]; · iexact H2
    isplitl [H4]; · iexact H4
    isplitl [H3]; · iexact H3
    iexact H5
  have kR : ∀ b : Fin 8, (iprop(semVal (sxrCell c b) 0 ∗ some' c (rxB b)) : sProp 𝕄) ⊢ semVal (sxrCell c b) 0 := fun b => by
    iintro ⟨H, -⟩; iexact H
  unfold fin
  iintro ⟨HB, HG, HR⟩
  have kG' : (bigSep Finset.univ (gone (QQ xb yb) c) : sProp 𝕄) ⊢ _ := bigSep_mono fun b _ => kG b
  have kR' : (bigSep Finset.univ (fun b : Fin 8 => iprop(semVal (sxrCell c b) 0 ∗ some' c (rxB b))) : sProp 𝕄) ⊢ _ := bigSep_mono fun b _ => kR b
  ihave HG := kG' $$ HG
  ihave HR := kR' $$ HR
  ihave G1 := unzip $$ HG; icases G1 with ⟨H1, HG⟩
  ihave G2 := unzip $$ HG; icases G2 with ⟨H2, HG⟩
  ihave G3 := unzip $$ HG; icases G3 with ⟨H3, HG⟩
  ihave G4 := unzip $$ HG; icases G4 with ⟨H4, H5⟩
  isplitl [HB]; · iexact HB
  isplitl [H1 H2 H3 HR]
  · isplitl [H1]; · iexact H1
    isplitl [HR]; · iexact HR
    isplitl [H2]; · iexact H2
    iexact H3
  iapply (join_sk c ![QQ xb yb c, QQ xb yb (oy c)])
  isplitl [H4]; · iexact H4
  iexact H5

end Cert.Cross

end

end
-- ==== Proof.Whole.lean ====
/-
  What each device ends with is its half of the rows of the whole product.
-/
module

public import proofs.«01_k».proof.Proof.Reads
public import proofs.«01_k».proof.Proof.Open
public import proofs.«01_k».proof.Proof.Out

@[expose] public section

set_option maxRecDepth 16384

noncomputable section

namespace Cert.Cross

open Cert.KernelIdeal Cert.KernelIdeal.Gen
open Idealize.ShloMosaic

/-- An entry of the transposed first array times the second. -/
def whole (A : (⟨2, ![8192, 4096]⟩ : Shape).Idx → EReal) (B : (⟨2, ![8192, 8192]⟩ : Shape).Idx → EReal) (r s : ℕ) : EReal :=
  ∑ k ∈ Finset.range 8192, rd A k r * rd B k s

variable (A : (⟨2, ![8192, 4096]⟩ : Shape).Idx → EReal) (B : (⟨2, ![8192, 8192]⟩ : Shape).Idx → EReal) (V : Mem Ideal)

/-- Device `c` holds its half of the rows of both arrays. -/
structure Holds : Prop where
  fst : ∀ (c : Dev nD) (p q : ℕ), p < 4096 → q < 4096 → rd (V c main_arg0) p q = rd A (c.val / 2 * 4096 + p) q
  snd : ∀ (c : Dev nD) (p q : ℕ), p < 4096 → q < 8192 → rd (V c main_arg1) p q = rd B (c.val / 2 * 4096 + p) q

variable {A B V}

/-- A device's product of one block is the sum over its rows of the whole arrays. -/
theorem part_rd (H : Holds A B V) (c : Dev nD) (k : ℕ) (hk : k < 16) (j : S1024x1024.Idx) :
    full (xb V) (yb V) c k j = ∑ p ∈ Finset.range 4096, rd A (c.val / 2 * 4096 + p) ((k / 4 + 2 * (1 - c.val / 2)) % 4 * 1024 + (j 0).val)
      * rd B (c.val / 2 * 4096 + p) ((c.val % 2 * 4 + k % 4) * 1024 + (j 1).val) := by
  have j0 : (j 0).val < 1024 := (j 0).isLt
  have j1 : (j 1).val < 1024 := (j 1).isLt
  rw [full_rd V c k hk j]
  refine Finset.sum_congr rfl fun p hp => ?_
  have hp := Finset.mem_range.1 hp
  rw [H.fst c p _ hp (by omega), H.snd c p _ hp (by omega)]

/-- A finished block holds entries of the whole product: the two halves of the rows, in either order. -/
theorem QQ_rd (H : Holds A B V) (c : Dev nD) (b : Fin 8) (j : S1024x1024.Idx) :
    QQ (xb V) (yb V) c b j = whole A B (c.val / 2 * 2048 + b.val / 4 * 1024 + (j 0).val) (c.val % 2 * 4096 + b.val % 4 * 1024 + (j 1).val) := by
  have hb := b.isLt
  have hc : c.val < 4 := c.isLt
  have hx : (ox c).val = (c.val + 2) % 4 := rfl
  rw [QQ_sum, part_rd H c _ (by omega), part_rd H (ox c) _ (by omega), hx]
  unfold whole
  refine Eq.trans ?_ (Finset.sum_range_add _ 4096 4096).symm
  rw [show (c.val + 2) % 4 % 2 = c.val % 2 by omega, show (8 + b.val) % 4 = b.val % 4 by omega,
    show (c.val % 2 * 4 + b.val % 4) * 1024 = c.val % 2 * 4096 + b.val % 4 * 1024 by omega]
  have h : c.val / 2 = 0 ∨ c.val / 2 = 1 := by omega
  rcases h with h | h
  · rw [h, show (c.val + 2) % 4 / 2 = 1 by omega, show ((8 + b.val) / 4 + 2 * (1 - 0)) % 4 * 1024 = 0 * 2048 + b.val / 4 * 1024 by omega,
      show (b.val / 4 + 2 * (1 - 1)) % 4 * 1024 = 0 * 2048 + b.val / 4 * 1024 by omega]
    simp only [Nat.zero_mul, Nat.zero_add, Nat.one_mul]
  · rw [h, show (c.val + 2) % 4 / 2 = 0 by omega, show ((8 + b.val) / 4 + 2 * (1 - 1)) % 4 * 1024 = 1 * 2048 + b.val / 4 * 1024 by omega,
      show (b.val / 4 + 2 * (1 - 0)) % 4 * 1024 = 1 * 2048 + b.val / 4 * 1024 by omega, add_comm]
    simp only [Nat.zero_mul, Nat.zero_add, Nat.one_mul]

/-- Each device's result is its half of the rows of the whole product. -/
theorem out_rd (H : Holds A B V) (c : Dev nD) (i : S2048x8192.Idx) :
    out (stk (xb V) (yb V)) c i = whole A B (c.val / 2 * 2048 + (i 0).val) (i 1).val := by
  have h0 : (i 0).val < 2048 := (i 0).isLt
  have h1 : (i 1).val < 8192 := (i 1).isLt
  have hc : c.val < 4 := c.isLt
  have hy : (oy c).val = 2 * (c.val / 2) + (1 - c.val % 2) := rfl
  have hr : ∀ d : Dev nD, d.val / 2 = c.val / 2 → d.val % 2 = (i 1).val / 4096 →
      ∀ (h0' h1' h2' h3'), QQ (xb V) (yb V) d (blk (i 0).val ((i 1).val % 4096) h0' h1') (bi ((i 0).val % 1024) ((i 1).val % 4096 % 1024) h2' h3')
        = whole A B (c.val / 2 * 2048 + (i 0).val) (i 1).val := fun d hd hd' h0' h1' h2' h3' => by
    rw [QQ_rd H, hd, hd']
    congr 1
    · show c.val / 2 * 2048 + (4 * ((i 0).val / 1024) + (i 1).val % 4096 / 1024) / 4 * 1024 + (i 0).val % 1024 = _
      omega
    · show (i 1).val / 4096 * 4096 + (4 * ((i 0).val / 1024) + (i 1).val % 4096 / 1024) % 4 * 1024 + (i 1).val % 4096 % 1024 = _
      omega
  unfold out stk stack
  by_cases h : (i 1).val / 4096 = c.val % 2
  · have e : (⟨plane c (i 1).val, plane_lt c _⟩ : Fin 2) = 0 := Fin.ext (if_pos h)
    show (![QQ (xb V) (yb V) c, QQ (xb V) (yb V) (oy c)] ⟨plane c (i 1).val, plane_lt c _⟩ _ _ : EReal) = _
    rw [e]
    exact hr c rfl h.symm _ _ _ _
  · have e : (⟨plane c (i 1).val, plane_lt c _⟩ : Fin 2) = 1 := Fin.ext (if_neg h)
    show (![QQ (xb V) (yb V) c, QQ (xb V) (yb V) (oy c)] ⟨plane c (i 1).val, plane_lt c _⟩ _ _ : EReal) = _
    rw [e]
    exact hr (oy c) (by omega) (by omega) _ _ _ _

end Cert.Cross

end

end
-- ==== Proof.Regs.lean ====
/-
  The two calls as segments of the program.
-/
module

public import proofs.«01_k».proof.Proof.Open

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat BodyObligation)

variable (m : (ℓ : Loc nD τ sig) → Buf (Elt F) ℓ)

/-- What every device's buffers hold when the calls begin. -/
def vm : Mem F := fun c b => V1 m c b
/-- What the stacked buffer of a device holds between the calls. -/
def sm (c : Dev nD) : S2x2048x4096.Idx → Elt F .bf16 := stk (xb (vm m)) (yb (vm m)) c

/-- A buffer of a device, held whole. -/
abbrev bp (c : Dev nD) (b : Ref sig .tc) (f : Buf (Elt F) ((c : Thread nD τ).loc b)) : sProp 𝕄 := ((c : Thread nD τ).loc b) ↦{fullShare} f

/-- What goes with the buffers up to the first call: the invariants, what launch gave, and the debts. -/
def rest0 (c : Dev nD) : sProp 𝕄 :=
  iprop((∃ K, allInv (XX (xb (vm m)) (yb (vm m))) (QQ (xb (vm m)) (yb (vm m))) K) ∗ dorm c ∗ ∃ W, owes (c : Thread nD τ) (owed c 0) W)

def pre0c (c : Dev nD) : sProp 𝕄 := iprop(StableHlo.held (c : Thread nD τ) (Pipeline.ucRefs τ sig) (V1 m c) ∗ rest0 m c)
/-- Between the calls. -/
def post0c (c : Dev nD) : sProp 𝕄 :=
  iprop(bp c main_arg0 (vm m c main_arg0) ∗ bp c main_arg1 (vm m c main_arg1) ∗ table c ∗ bp c main_v12_0 (sm m c) ∗ bp c main_v13 (vm m c main_v13)
    ∗ semVal (barCell c) 0 ∗ ∃ W, owes (c : Thread nD τ) (0 : CellTallies nD τ sig Ix) W)
/-- After the calls. -/
def post1c (c : Dev nD) : sProp 𝕄 :=
  iprop((bp c main_arg0 (vm m c main_arg0) ∗ bp c main_arg1 (vm m c main_arg1) ∗ bp c main_v13 (out (sm m) c) ∗ semVal (barCell c) 0)
    ∗ ∃ W, owes (c : Thread nD τ) (0 : CellTallies nD τ sig Ix) W)

theorem held_bufs (c : Dev nD) (W : Valuation τ sig (Elt F)) :
    (StableHlo.held (c : Thread nD τ) (Pipeline.ucRefs τ sig) W : sProp 𝕄) = unscopedBufs c (fun b => W b) :=
  (Pipeline.unscopedBufs_held c W).symm

theorem above_all (c : Dev nD) (n : ℕ) : Above 1 (owed c n) := by
  by_cases h : n = 0
  · subst h; rw [owed_first]; exact ((above_owed c (by decide)).mono (by decide)).add (above_B c)
  · exact (above_owed c h).mono (by decide)

def x0 (c : Dev nD) : sProp 𝕄 := iprop(known (xb (vm m)) (yb (vm m)) ∗ cps c ∗ start c)
def y0 (c : Dev nD) : sProp 𝕄 := iprop(table c ∗ semVal (barCell c) 0 ∗ bp c main_v12_0 (sm m c))

theorem entry0 (c : Dev nD) : iprop(pre0c m c ∗ Pipeline.ownSems0 osem c ∗ levAts L lv)
    ⊢ (|={Set.univ}=> iprop((bp c main_arg0 (vm m c main_arg0) ∗ bp c main_arg1 (vm m c main_arg1)) ∗ table c
      ∗ (∃ W, owes (c : Thread nD τ) (owed c 0) W) ∗ x0 m c ∗ bp c main_v13 (vm m c main_v13)) : sProp 𝕄) := by
  unfold pre0c rest0 dorm x0
  rw [held_bufs, ownSems_eq]
  iintro ⟨⟨HB, ⟨%K, #HI⟩, ⟨HdB, HdX, HdY, Ho⟩, HO⟩, ⟨Hc, Hs⟩, #Hl⟩
  ihave HB := (bufs_of c fun b => V1 m c b) $$ HB
  icases HB with ⟨H0, H1, Ht, Hk, Hx, Hst, H13⟩
  imod (opened (XX (xb (vm m)) (yb (vm m))) (QQ (xb (vm m)) (yb (vm m))) K c) $$ [Ho Hs] with Ha
  · isplitr; · iexact HI
    iapply zip
    isplitl [Ho]; · iexact Ho
    iexact Hs
  imodintro
  isplitl [H0 H1]
  · isplitl [H0]; · iexact H0
    iexact H1
  isplitl [Ht]
  · rw [v11]; iexact Ht
  isplitl [HO]; · iexact HO
  isplitr [H13]
  · isplitr
    · unfold known
      isplitr
      · iexists K; iexact HI
      iexact Hl
    isplitl [Hc]; · iexact Hc
    ihave Hx := (split_rx c _) $$ Hx
    ihave Hst := (split_st c _) $$ Hst
    ihave Hk := (split_sk c _) $$ Hk
    icases Hk with ⟨Hk0, Hk1⟩
    iapply (ready c)
    isplitl [HdB]; · iexact HdB
    isplitl [HdX]; · iexact HdX
    isplitl [HdY]; · iexact HdY
    isplitl [Ha]; · iexact Ha
    isplitl [Hx]; · iexact Hx
    isplitl [Hst]; · iexact Hst
    isplitl [Hk0]; · iexact Hk0
    iexact Hk1
  iexact H13

theorem in0 (c : Dev nD) : iprop(x0 m c ∗ table c ∗ Pipeline.scopedRest spec0 c) ⊢ (iprop(held (xb (vm m)) (yb (vm m)) c 0 ∗ idle0 c) : sProp 𝕄) := by
  unfold x0 held tmps idle0
  rw [scopedRest0_eq, st_zero _ _ c rfl]
  iintro ⟨⟨Hk, Hc, Hs⟩, Ht, ⟨%f, S0⟩, S1, S2, S3, T0, T1, T2, T3⟩
  isplitr [T0 T1 T2 T3]
  · isplitl [Hk]; · iexact Hk
    isplitl [Ht]; · iexact Ht
    isplitl [Hc]; · iexact Hc
    isplitr [Hs]
    · isplitl [S0]
      · iexists f
        isplitr
        · ipureintro; intro h; exact absurd h (by decide)
        iexact S0
      isplitl [S1]; · iexact S1
      isplitl [S2]; · iexact S2
      iexact S3
    iexact Hs
  isplitl [T0]; · iexact T0
  isplitl [T1]; · iexact T1
  isplitl [T2]; · iexact T2
  iexact T3

theorem out0 (c : Dev nD) : (iprop(held (xb (vm m)) (yb (vm m)) c 32 ∗ idle0 c) : sProp 𝕄) ⊢ iprop(y0 m c ∗ Pipeline.ownSems0 osem c ∗ Pipeline.scopedRest spec0 c) := by
  unfold y0 held tmps idle0
  rw [scopedRest0_eq, st_fin _ _ c rfl, ownSems_eq]
  iintro ⟨⟨-, Ht, Hc, ⟨⟨%f, -, S0⟩, S1, S2, S3⟩, Hs⟩, T0, T1, T2, T3⟩
  ihave Hs := (done (xb (vm m)) (yb (vm m)) c) $$ Hs
  icases Hs with ⟨Hb, He, Hk⟩
  isplitl [Ht Hb Hk]
  · isplitl [Ht]; · iexact Ht
    isplitl [Hb]; · iexact Hb
    iexact Hk
  isplitl [Hc He]
  · isplitl [Hc]; · iexact Hc
    iexact He
  isplitl [S0]; · iexists f; iexact S0
  isplitl [S1]; · iexact S1
  isplitl [S2]; · iexact S2
  isplitl [S3]; · iexact S3
  isplitl [T0]; · iexact T0
  isplitl [T1]; · iexact T1
  isplitl [T2]; · iexact T2
  iexact T3

theorem in_arr0 (c : Dev nD) (n : ℕ) : ((pdats (vm m) (sm m) 0 c).arrays ((pdats (vm m) (sm m) 0 c).arrAt · n) : sProp 𝕄)
    = iprop(bp c main_arg0 (vm m c main_arg0) ∗ bp c main_arg1 (vm m c main_arg1)) := by
  rw [arrays0]
  have h0 : (pdats (vm m) (sm m) 0 c).arrAt 0 n = vm m c main_arg0 := Dat.arrAt_in (dat0 (vm m) c) 0 rfl n
  have h1 : (pdats (vm m) (sm m) 0 c).arrAt 1 n = vm m c main_arg1 := Dat.arrAt_in (dat0 (vm m) c) 1 rfl n
  rw [h0, h1]

theorem in_arr1 (c : Dev nD) : ((pdats (vm m) (sm m) 1 c).arrays ((pdats (vm m) (sm m) 1 c).arrAt · 0) : sProp 𝕄)
    = iprop(bp c main_v12_0 (sm m c) ∗ bp c main_v13 (vm m c main_v13)) := by
  rw [arrays1]
  have h0 : (pdats (vm m) (sm m) 1 c).arrAt 0 0 = sm m c := Dat.arrAt_in (dat1 (vm m) (sm m) c) 0 rfl 0
  have h1 : (pdats (vm m) (sm m) 1 c).arrAt 1 0 = vm m c main_v13 := rfl
  rw [h0, h1]

theorem out_arr1 (c : Dev nD) : ((pdats (vm m) (sm m) 1 c).arrays ((pdats (vm m) (sm m) 1 c).arrAt · (pD (F := F) c 1).N) : sProp 𝕄)
    = iprop(bp c main_v12_0 (sm m c) ∗ bp c main_v13 (out (sm m) c)) := by
  rw [arrays1]
  have h0 : (pdats (vm m) (sm m) 1 c).arrAt 0 (pD (F := F) c 1).N = sm m c := Dat.arrAt_in (dat1 (vm m) (sm m) c) 0 rfl _
  have h1 : (pdats (vm m) (sm m) 1 c).arrAt 1 (pD (F := F) c 1).N = out (sm m) c := arr1 (vm m) (sm m) c
  rw [h0, h1]

/-- After either call nothing is owed. -/
theorem last0 (c : Dev nD) : ((pdats (vm m) (sm m) 0 c).owesAt 0 (Fin.last (Pipeline.pinD (pcfgs (F := F)) adm c 0).N) : sProp 𝕄) ⊢ iprop(∃ W, owes (c : Thread nD τ) (0 : CellTallies nD τ sig Ix) W) :=
  of_owesAt (dat0 (vm m) c) (Fin.last (cf0 (F := F) c).N) (O := 0) (owed_last c N_0)
theorem last1 (c : Dev nD) : ((pdats (vm m) (sm m) 1 c).owesAt 0 (Fin.last (Pipeline.pinD (pcfgs (F := F)) adm c 1).N) : sProp 𝕄) ⊢ iprop(∃ W, owes (c : Thread nD τ) (0 : CellTallies nD τ sig Ix) W) :=
  of_owesAt (dat1 (vm m) (sm m) c) (Fin.last (cf1 (F := F) c).N) (O := 0) rfl

set_option backward.isDefEq.respectTransparency.types false in
/-- The first call: the exchange. -/
def reg0 : Pipeline.PerCore.RegionSeg (pcfgs (F := F)) adm (pdats (vm m) (sm m)) 0 (defs₀ (F := F)) 𝒱₀ L lv 0 where
  win := winFacts0.to₀
  block_pos := block_pos0
  stage_whole := stage_whole0
  K := Fin 3 ⊕ Fin 32
  osem := osem
  ho := osem_ok
  hbody c := (body0 (vm m) c).loose
  hwaits c := Pipeline.PerCore.cellsWaits_intro _ (pdats (vm m) (sm m)) 0 0 c fun _ _ t =>
    mayWait (k := 0) (above_all c t.val) c _ 0 (.inl rfl) (by unfold lv; rw [if_pos rfl])
  pre := pre0c m
  post := post0c m
  X := x0 m
  Y := y0 m
  Z c := bp c main_v13 (vm m c main_v13)
  hentry c := by
    rw [in_arr0, pref0]
    iintro H
    imod (entry0 m c) $$ H with ⟨Ha, Ht, HO, HX, HZ⟩
    imodintro
    isplitl [Ha]; · iexact Ha
    isplitl [Ht]; · iexact Ht
    isplitl [HO]; · iapply (owesAt_of (dat0 (vm m) c) 0 (O := owed c 0) rfl rfl) $$ HO
    isplitl [HX]; · iexact HX
    iexact HZ
  hin c := by
    rw [pref0]
    exact in0 m c
  hout c := by
    have e : (pdats (vm m) (sm m) 0 c).Φ (Fin.last (pD (F := F) c 0).N) = iprop(held (xb (vm m)) (yb (vm m)) c 32 ∗ idle0 c) := by
      show iprop(held (xb (vm m)) (yb (vm m)) c grid0.N ∗ idle0 c) = _
      rw [N_0]
    rw [e]
    exact out0 m c
  hexit c := by
    rw [in_arr0]
    unfold y0 post0c
    iintro ⟨⟨H0, H1⟩, HO, ⟨Ht, Hb, Hk⟩, H13⟩
    ihave HO := (last0 m c) $$ HO
    imodintro
    isplitl [H0]; · iexact H0
    isplitl [H1]; · iexact H1
    isplitl [Ht]; · iexact Ht
    isplitl [Hk]; · iexact Hk
    isplitl [H13]; · iexact H13
    isplitl [Hb]; · iexact Hb
    iexact HO

set_option backward.isDefEq.respectTransparency.types false in
/-- The second call: the widening copy. -/
def reg1 : Pipeline.PerCore.RegionSeg (pcfgs (F := F)) adm (pdats (vm m) (sm m)) 0 (defs₀ (F := F)) 𝒱₀ L lv 1 where
  win := winFacts1.to₀
  block_pos := block_pos1
  stage_whole := stage_whole1
  K := PEmpty
  osem k := k.elim
  ho := Pipeline.OwnSemFacts.none _
  hbody c := (body1 (vm m) (sm m) c).loose
  hwaits := Pipeline.PerCore.hwaits_of_owed_zero (pcfgs (F := F)) adm (pdats (vm m) (sm m)) 0 L lv 1 fun _ _ => rfl
  pre := post0c m
  post := post1c m
  X _ := iprop(emp)
  Y _ := iprop(emp)
  Z c := iprop(bp c main_arg0 (vm m c main_arg0) ∗ bp c main_arg1 (vm m c main_arg1) ∗ semVal (barCell c) 0)
  hentry c := by
    rw [in_arr1, pref1, Pipeline.ownSems0_none]
    unfold post0c
    iintro ⟨⟨H0, H1, Ht, Hk, H13, Hb, HO⟩, -, -⟩
    imodintro
    isplitl [Hk H13]
    · isplitl [Hk]; · iexact Hk
      iexact H13
    isplitl [Ht]; · iexact Ht
    isplitl [HO]; · iapply (owesAt_of (dat1 (vm m) (sm m) c) 0 (O := 0) rfl rfl) $$ HO
    isplitr; · iempintro
    isplitl [H0]; · iexact H0
    isplitl [H1]; · iexact H1
    iexact Hb
  hin c := by
    rw [pref1]
    show iprop(emp ∗ table c ∗ Pipeline.scopedRest spec1 c) ⊢ iprop(table c ∗ Pipeline.scopedRest spec1 c)
    iintro ⟨-, Ht, Hs⟩
    isplitl [Ht]; · iexact Ht
    iexact Hs
  hout c := by
    rw [Pipeline.ownSems0_none]
    show iprop(table c ∗ Pipeline.scopedRest spec1 c) ⊢ iprop(emp ∗ emp ∗ Pipeline.scopedRest spec1 c)
    iintro ⟨-, Hs⟩
    isplitr; · iempintro
    isplitr; · iempintro
    iexact Hs
  hexit c := by
    rw [out_arr1]
    unfold post1c
    iintro ⟨⟨-, H13⟩, HO, -, H0, H1, Hb⟩
    ihave HO := (last1 m c) $$ HO
    imodintro
    isplitr [HO]
    · isplitl [H0]; · iexact H0
      isplitl [H1]; · iexact H1
      isplitl [H13]; · iexact H13
      iexact Hb
    iexact HO

end Cert.Cross

end

end
-- ==== Proof.Deal.lean ====
/-
  The launch: the tokens of every duty and the credit of every debt, dealt to the devices.
-/
module

public import proofs.«01_k».proof.Proof.Regs

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

/-! ## The tokens -/

/-- The duties of a device's cells: two of its barrier, one of each exchange cell. -/
def dutyAt (c : Dev nD) : Bool ⊕ Fin 32 → GSem nD τ sig × ℕ × Bool := Sum.elim (fun d => (barCell c, 0, d)) (fun k => (exCell c k, 0, true))

def tokE : Dev nD × (Bool ⊕ Fin 32) ↪ GSem nD τ sig × ℕ × Bool := ⟨fun p => dutyAt p.1 p.2, fun a b h => by
  obtain ⟨a, i⟩ := a
  obtain ⟨b, j⟩ := b
  rcases i with d | k <;> rcases j with e | l
  · exact Prod.ext (congrArg (fun t : GSem nD τ sig × ℕ × Bool => t.1.1.1) h) (congrArg Sum.inl (congrArg (fun t : GSem nD τ sig × ℕ × Bool => t.2.2) h))
  · exact absurd (congrArg (fun t : GSem nD τ sig × ℕ × Bool => t.1.2) h) (by intro h; cases h)
  · exact absurd (congrArg (fun t : GSem nD τ sig × ℕ × Bool => t.1.2) h) (by intro h; cases h)
  · have h1 : exE (a, k) = exE (b, l) := congrArg (fun t : GSem nD τ sig × ℕ × Bool => t.1) h
    obtain ⟨rfl, rfl⟩ := Prod.mk.inj (exE.injective h1)
    rfl⟩

/-- All duties. -/
def allToks : Finset (GSem nD τ sig × ℕ × Bool) := Finset.univ.map tokE

/-- The tokens a device's own cells have. -/
def ownToks (c : Dev nD) : sProp 𝕄 :=
  iprop((dutyTok ER (barCell c) 0 true ∗ dutyTok ER (barCell c) 0 false) ∗ (bigSep Finset.univ fun b : Fin 8 => dutyTok ER (sxsCell c b) 0 true)
    ∗ (bigSep Finset.univ fun b : Fin 8 => dutyTok ER (sxrCell c b) 0 true) ∗ (bigSep Finset.univ fun b : Fin 8 => dutyTok ER (sysCell c b) 0 true)
    ∗ (bigSep Finset.univ fun b : Fin 8 => dutyTok ER (syrCell c b) 0 true))
/-- The tokens of the duties a device pays. -/
def paidToks (c : Dev nD) : sProp 𝕄 :=
  iprop((dutyTok ER (barCell (ox c)) 0 true ∗ dutyTok ER (barCell (oy c)) 0 false) ∗ (bigSep Finset.univ fun b : Fin 8 => dutyTok ER (sxsCell c b) 0 true)
    ∗ (bigSep Finset.univ fun b : Fin 8 => dutyTok ER (sxrCell (ox c) b) 0 true) ∗ (bigSep Finset.univ fun b : Fin 8 => dutyTok ER (sysCell c b) 0 true)
    ∗ (bigSep Finset.univ fun b : Fin 8 => dutyTok ER (syrCell (oy c) b) 0 true))

theorem allToks_eq : (bigSep allToks (fun x => dutyTok ER x.1 x.2.1 x.2.2) : sProp 𝕄) = bigSep Finset.univ fun c : Dev nD => ownToks c := by
  unfold allToks
  rw [BI.bigSep_map, BI.bigSep_univ_prod]
  refine bigSep_congr fun c _ => ?_
  unfold ownToks
  rw [BI.bigSep_univ_sum]
  refine congrArg₂ _ ?_ ?_
  · rw [show (Finset.univ : Finset Bool) = {true, false} from rfl, BI.bigSep_insert (by decide), bigSep_singleton]; rfl
  · show (bigSep Finset.univ fun k : Fin 32 => (dutyTok ER (exCell c k) 0 true : sProp 𝕄)) = _
    rw [four]
    simp only [sxs_cell, sxr_cell, sys_cell, syr_cell]

/-- Each token goes to the device that pays its duty. -/
theorem toks_dealt : (bigSep Finset.univ fun c : Dev nD => (ownToks c : sProp 𝕄)) ⊢ bigSep Finset.univ fun c : Dev nD => paidToks c := by
  unfold ownToks paidToks
  rw [bigSep_sep', bigSep_sep', bigSep_sep', bigSep_sep', bigSep_sep', bigSep_sep', bigSep_sep', bigSep_sep', bigSep_sep', bigSep_sep',
    BI.bigSep_univ_equiv oxE (fun c : Dev nD => (dutyTok ER (barCell c) 0 true : sProp 𝕄)),
    BI.bigSep_univ_equiv oyE (fun c : Dev nD => (dutyTok ER (barCell c) 0 false : sProp 𝕄)),
    BI.bigSep_univ_equiv oxE (fun c : Dev nD => (bigSep Finset.univ fun b : Fin 8 => dutyTok ER (sxrCell c b) 0 true : sProp 𝕄)),
    BI.bigSep_univ_equiv oyE (fun c : Dev nD => (bigSep Finset.univ fun b : Fin 8 => dutyTok ER (syrCell c b) 0 true : sProp 𝕄))]
  exact BI.Entails.refl _

/-! ## The credit -/

theorem filter_all : (Finset.univ.filter fun x : Fin 8 => 0 ≤ x.val) = Finset.univ := by decide

/-- A device is dealt the credit of all its waits for others. -/
theorem creds (c : Dev nD) : (Pipeline.launchCred (fun d => owed d 0) c : sProp 𝕄)
    ⊢ iprop(cred (tallyAt (barCell c) 1 2) ∗ (bigSep Finset.univ fun b : Fin 8 => cred (tallyAt (sxrCell c b) 1 N))
      ∗ (bigSep Finset.univ fun b : Fin 8 => cred (tallyAt (syrCell c b) 1 N))) := by
  have e : (fun d : Dev nD => owed d 0) = fun d => ((∑ b : Fin 8, tallyAt (sxrCell (ox d) b) 1 N) + (∑ b : Fin 8, tallyAt (syrCell (oy d) b) 1 N))
      + (tallyAt (barCell (ox d)) 1 1 + tallyAt (barCell (oy d)) 1 1) := funext fun d => by
    show owedX d 0 + owedY d 0 + owedB d = _
    unfold owedX owedY owedB
    rw [filter_all]
  rw [e, Pipeline.launchCred_add, Pipeline.launchCred_add, Pipeline.launchCred_add, Pipeline.launchCred_sum, Pipeline.launchCred_sum]
  have kx : ∀ b : Fin 8, (Pipeline.launchCred (fun d => tallyAt (sxrCell (ox d) b) 1 N) c : sProp 𝕄) ⊢ cred (tallyAt (sxrCell c b) 1 N) :=
    fun b => Pipeline.launchCred_tallyAt (SemLoc.dma (sxrS b)) ox ox ox_ox ox_ox 1 N c
  have ky : ∀ b : Fin 8, (Pipeline.launchCred (fun d => tallyAt (syrCell (oy d) b) 1 N) c : sProp 𝕄) ⊢ cred (tallyAt (syrCell c b) 1 N) :=
    fun b => Pipeline.launchCred_tallyAt (SemLoc.dma (syrS b)) oy oy oy_oy oy_oy 1 N c
  have kx' : (bigSep Finset.univ (fun b : Fin 8 => Pipeline.launchCred (fun d => tallyAt (sxrCell (ox d) b) 1 N) c) : sProp 𝕄) ⊢ _ := bigSep_mono fun b _ => kx b
  have ky' : (bigSep Finset.univ (fun b : Fin 8 => Pipeline.launchCred (fun d => tallyAt (syrCell (oy d) b) 1 N) c) : sProp 𝕄) ⊢ _ := bigSep_mono fun b _ => ky b
  have e2 : (tallyAt (barCell c) 1 2 : CellTallies nD τ sig Ix) = tallyAt (barCell c) 1 1 + tallyAt (barCell c) 1 1 := (tallyAt_add _ _ 1 1).symm
  rw [e2]
  iintro ⟨⟨HX, HY⟩, H1, H2⟩
  ihave HX := kx' $$ HX
  ihave HY := ky' $$ HY
  ihave H1 := (Pipeline.launchCred_tallyAt (SemLoc.reg barS) ox ox ox_ox ox_ox 1 1 c) $$ H1
  ihave H2 := (Pipeline.launchCred_tallyAt (SemLoc.reg barS) oy oy oy_oy oy_oy 1 1 c) $$ H2
  isplitl [H1 H2]
  · iapply (cred_add _ _).2
    isplitl [H1]; · iexact H1
    iexact H2
  isplitl [HX]; · iexact HX
  iexact HY

/-! ## What a device holds before the first call -/

theorem cells_disjoint : Disjoint barCells exCells := by
  rw [Finset.disjoint_left]
  intro g hg hg'
  obtain ⟨c, -, rfl⟩ := Finset.mem_map.mp hg
  obtain ⟨p, -, h⟩ := Finset.mem_map.mp hg'
  have : (SemLoc.dma (exS p.2) : SemLoc sig) = SemLoc.reg barS := congrArg Prod.snd h
  cases this

/-- Tokens and credit, with the barriers' positions and the rights to open, are what the first call asks for. -/
theorem dealt (c : Dev nD) : (iprop((bigSep barCells fun g => reached ER g 0) ∗ atPos ER (barCell c) 0 ∅ 0
      ∗ (bigSep Finset.univ fun k : Fin 32 => openTok ER (exCell c k)) ∗ paidToks c
      ∗ cred (tallyAt (barCell c) 1 2) ∗ (bigSep Finset.univ fun b : Fin 8 => cred (tallyAt (sxrCell c b) 1 N))
      ∗ (bigSep Finset.univ fun b : Fin 8 => cred (tallyAt (syrCell c b) 1 N))) : sProp 𝕄) ⊢ dorm c := by
  have hr : ∀ d : Dev nD, (bigSep barCells (fun g => reached ER g 0) : sProp 𝕄) ⊢ reached ER (barCell d) 0 := fun d =>
    bigSep_elim (Finset.mem_map_of_mem barE (Finset.mem_univ d))
  unfold paidToks dorm dB dX dY
  iintro ⟨#HR, Ha, Ho, ⟨⟨T1, T2⟩, X1, X2, Y1, Y2⟩, C, CX, CY⟩
  isplitl [Ha T1 T2 C]
  · isplitl [Ha]; · iexact Ha
    isplitl [C]; · iexact C
    isplitl [T1]; · iexact T1
    isplitr; · iapply (hr (ox c)); iexact HR
    isplitl [T2]; · iexact T2
    iapply (hr (oy c)); iexact HR
  isplitl [X1 X2]
  · iapply zip
    isplitl [X1]; · iexact X1
    iexact X2
  isplitl [Y1 Y2 CX CY]
  · iapply zip
    isplitl [Y1]; · iexact Y1
    iapply zip
    isplitl [Y2]; · iexact Y2
    iapply zip
    isplitl [CX]; · iexact CX
    iexact CY
  iexact Ho

end Cert.Cross

end

end
-- ==== Proof.Run.lean ====
/-
  The run of the whole program on the four devices.
-/
module

public import proofs.«01_k».proof.Proof.Deal

@[expose] public section

set_option maxRecDepth 16384

noncomputable section

namespace Cert.Cross

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (m : (ℓ : Loc nD τ sig) → Buf (Elt F) ℓ) (ρ : Dev nD → PrngReg)

/-- The launch's element: the pipelines' part, the exchange's part, no counters. -/
def u₀ : UU :=
  (initOf (Pipeline.PerCore.cells (pD (F := F)) cells_inj) (Pipeline.PerCore.launchToks (pD (F := F)) cells_inj), (launchOf barCells exCells allToks, 1))

/-- The exchange's part, kept on device 0 until all devices' cells are funded. -/
def park (c : Dev nD) : sProp 𝕄 := if c = 0 then BI.own (ER (launchOf barCells exCells allToks)) else iprop(emp)

theorem parked : (bigSep Finset.univ (park (F := F)) : sProp 𝕄) = BI.own (ER (launchOf barCells exCells allToks)) := by
  rw [BI.bigSep_univ_at _ (0 : Dev nD), bigSep_congr (s := Finset.univ.erase (0 : Dev nD)) (Ψ := fun _ => (BI.emp : sProp 𝕄))
    fun c hc => by unfold park; rw [if_neg (Finset.ne_of_mem_erase hc)]; rfl, BI.bigSep_emp_const]
  unfold park; rw [if_pos rfl]
  exact BI.equiv_iff.mp sep_emp

theorem launch_own : (ownU (u₀ (F := F)) : sProp 𝕄)
    ⊢ |={Set.univ}=> iprop(BI.own (EP (F := F) (initOf (Pipeline.PerCore.cells (pD (F := F)) cells_inj) (Pipeline.PerCore.launchToks (pD (F := F)) cells_inj))) ∗ bigSep Finset.univ (park (F := F))) := by
  unfold u₀
  rw [parked]
  iintro Hu
  ihave H := (ownU_pair _ _) $$ Hu
  icases H with ⟨HP, HX⟩
  ihave HX := (own_pair_emb embR _ _) $$ HX
  icases HX with ⟨HX, -⟩
  imodintro
  isplitl [HP]; · iexact HP
  iexact HX

theorem bar_only : ∀ s : SemLoc sig, s.isScoped .tc = false → s = .reg barS := by decide

theorem sems_bar (c : Dev nD) : (unscopedSems0 c : sProp 𝕄) = semVal (barCell c) 0 := by
  unfold unscopedSems0
  rw [show (Finset.univ.filter fun s : SemLoc sig => ¬s.isScoped .tc = true) = {SemLoc.reg barS} by decide, bigSep_singleton]

/-- What a device starts with. -/
abbrev first (c : Dev nD) : sProp 𝕄 := iprop(StableHlo.held (c : Thread nD τ) (Pipeline.ucRefs τ sig) (V0 m c) ∗ rest0 m c)
/-- What a device ends with. -/
abbrev final (c : Dev nD) : sProp 𝕄 :=
  iprop(bp c main_arg0 (vm m c main_arg0) ∗ bp c main_arg1 (vm m c main_arg1) ∗ bp c main_v13 (out (sm m) c) ∗ semVal (barCell c) 0)

/-- What the devices share after funding. -/
def shared (K : GSem nD τ sig → ℕ) : sProp 𝕄 := iprop(allInv (XX (xb (vm m)) (yb (vm m))) (QQ (xb (vm m)) (yb (vm m))) K ∗ bigSep barCells fun g => reached ER g 0)

instance shared_persistent (K : GSem nD τ sig → ℕ) : BI.Persistent (shared m K) := by unfold shared; infer_instance

/-- What funding leaves to one device. -/
def lot (c : Dev nD) : sProp 𝕄 :=
  iprop(atPos ER (barCell c) 0 ∅ 0 ∗ (bigSep Finset.univ fun k : Fin 32 => openTok ER (exCell c k)) ∗ paidToks c)
/-- What launch gives one device besides. -/
def stock (c : Dev nD) : sProp 𝕄 :=
  iprop(StableHlo.held (c : Thread nD τ) (Pipeline.ucRefs τ sig) (V0 m c) ∗ owes (c : Thread nD τ) (owed c 0) ∅
    ∗ cred (tallyAt (barCell c) 1 2) ∗ (bigSep Finset.univ fun b : Fin 8 => cred (tallyAt (sxrCell c b) 1 N))
      ∗ (bigSep Finset.univ fun b : Fin 8 => cred (tallyAt (syrCell c b) 1 N)))

theorem first_of (K : GSem nD τ sig → ℕ) (c : Dev nD) : (iprop(shared m K ∗ (lot c ∗ stock m c)) : sProp 𝕄) ⊢ first m c := by
  unfold shared lot stock first rest0
  iintro ⟨⟨#HI, #HR⟩, ⟨Ha, Ho, Ht⟩, Hh, HO, C, CX, CY⟩
  isplitl [Hh]; · iexact Hh
  isplitr; · iexists K; iexact HI
  isplitr [HO]
  · iapply (dealt c)
    isplitr; · iexact HR
    isplitl [Ha]; · iexact Ha
    isplitl [Ho]; · iexact Ho
    isplitl [Ht]; · iexact Ht
    isplitl [C]; · iexact C
    isplitl [CX]; · iexact CX
    iexact CY
  iexists ∅; iexact HO

theorem launch_all :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ park (F := F) c)) ∗ levAts L lv)
      ⊢ (|={Set.univ}=> bigSep Finset.univ (first m) : sProp 𝕄) := by
  have hone (c : Dev nD) : iprop(unscopedBufs c (fun b => m ((c : Thread nD τ).loc b)) ∗ unscopedSems0 c
        ∗ owes (c : Thread nD τ) (owed c 0) ∅ ∗ Pipeline.launchCred (fun d => owed d 0) c ∗ prngReg c (ρ c) ∗ park (F := F) c)
      ⊢ (iprop(stock m c ∗ (semVal (barCell c) 0 ∗ park (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      sems_bar]
    unfold stock
    iintro ⟨Hh, Hs, HO, Hc, -, HG⟩
    ihave Hc := (creds (F := F) c) $$ Hc
    isplitr [Hs HG]
    · isplitl [Hh]; · iexact Hh
      isplitl [HO]; · iexact HO
      iexact Hc
    isplitl [Hs]; · iexact Hs
    iexact HG
  have hone' : (bigSep Finset.univ (fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ park (F := F) c)) : sProp 𝕄) ⊢ _ := bigSep_mono fun c _ => hone c
  have hv : (bigSep Finset.univ fun c : Dev nD => (semVal (barCell c) 0 : sProp 𝕄)) = bigSep barCells fun g => (semVal g 0 : sProp 𝕄) :=
    (bigSep_map (s := Finset.univ) barE (Φ := fun g : GSem nD τ sig => (semVal g 0 : sProp 𝕄))).symm
  have hat : (bigSep barCells fun g => (atPos ER g 0 ∅ 0 : sProp 𝕄)) = bigSep Finset.univ fun c : Dev nD => (atPos ER (barCell c) 0 ∅ 0 : sProp 𝕄) :=
    bigSep_map (s := Finset.univ) barE (Φ := fun g : GSem nD τ sig => (atPos ER g 0 ∅ 0 : sProp 𝕄))
  have hopen : (bigSep exCells fun g => (openTok ER g : sProp 𝕄))
      = bigSep Finset.univ fun c : Dev nD => (bigSep Finset.univ fun k : Fin 32 => (openTok ER (exCell c k) : sProp 𝕄)) := by
    unfold exCells
    rw [bigSep_map, BI.bigSep_univ_prod]; rfl
  iintro ⟨H, -⟩
  ihave H := hone' $$ H
  ihave H := unzip $$ H
  icases H with ⟨HB, H⟩
  ihave H := unzip $$ H
  icases H with ⟨Hv, HG⟩
  ihave HG := (Entails.of_eq (parked (F := F))) $$ HG
  imod (Rounds.fund_launch ER (Rd (XX (xb (vm m)) (yb (vm m))) (QQ (xb (vm m)) (yb (vm m)))) cells_disjoint (fun _ _ h => h) allToks) $$ [Hv HG] with ⟨%K, -, #HI, #HR, Hat, Ho, Ht⟩
  · isplitl [Hv]
    · iapply (Entails.of_eq hv) $$ Hv
    iexact HG
  ihave Hat := (Entails.of_eq hat) $$ Hat
  ihave Ho := (Entails.of_eq hopen) $$ Ho
  ihave Ht := (Entails.of_eq (allToks_eq (F := F))) $$ Ht
  ihave Ht := (toks_dealt (F := F)) $$ Ht
  imodintro
  iapply (bigSep_with_persistent (R := shared m K) (Φ := fun c => iprop(lot c ∗ stock m c)) fun c _ => first_of m K c)
  isplitr
  · unfold shared allInv
    isplitr; · iexact HI
    iexact HR
  iapply zip
  isplitr [HB]
  · unfold lot
    iapply zip
    isplitl [Hat]; · iexact Hat
    iapply zip
    isplitl [Ho]; · iexact Ho
    iexact Ht
  iexact HB

/-- The host stretch, then the two calls. -/
def parts (c : Dev nD) : List (Pipeline.PerCore.Seg (pcfgs (F := F)) adm (pdats (vm m) (sm m)) 0 (defs₀ (F := F)) 𝒱₀ L lv) :=
  [.host (seg0 m 𝒱₀ L lv (fun _ => rest0 m) c), .region (reg0 m), .region (reg1 m)]

theorem vm_arg0 (c : Dev nD) : vm m c main_arg0 = m ((c : Thread nD τ).loc main_arg0) := (V1_of m c main_arg0 (by decide)).trans rfl
theorem vm_arg1 (c : Dev nD) : vm m c main_arg1 = m ((c : Thread nD τ).loc main_arg1) := (V1_of m c main_arg1 (by decide)).trans rfl

set_option backward.isDefEq.respectTransparency.types false in
/-- From any memory, with all counters zero, every execution on the four devices ends; both arguments are then unchanged,
    the result holds `out`, and all counters are zero. -/
theorem run_main : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v13) = out (sm m) c) ∧ r.2.sem = fun _ => 0) :=
  Pipeline.PerCore.θ_run_regions_kit_sems (pcfgs (F := F)) adm (pdats (vm m) (sm m)) 0 cells_inj EP defs₀ 𝒱₀ L lv m ρ main (parts m)
    (fun c Q => by
      rewrite [main_chain c, Pipeline.PerCore.Seg.run_eq_chain,
        show (parts m c).map Pipeline.PerCore.Seg.prog = [
          StableHlo.seq (hostOps0 c),
          Prog.lift (.customCall (Pipeline.entry 0) ()),
          Prog.lift (.customCall (Pipeline.entry 1) ()) ] from rfl]
      dsimp (config := { failIfUnchanged := false }) only
      exact .rfl)
    (fun c => by simp only [parts, Pipeline.PerCore.Seg.pipes_host, Pipeline.PerCore.Seg.pipes_region, Pipeline.PerCore.Seg.pipes_nil]; decide)
    (O₀ := fun d => owed d 0) (hL := L_of_ne) (G := park) (u₀ := u₀) (hu₀ := launch_own)
    (T₀ := first m) (Tₙ := final m)
    (hch := fun c => ⟨BI.Entails.refl _, BI.Entails.refl _, BI.Entails.refl _, BI.Entails.refl _⟩)
    (hinit := launch_all m ρ)
    (QY := fun c s => (s.mem ((c : Thread nD τ).loc main_arg0) = vm m c main_arg0 ∧ s.mem ((c : Thread nD τ).loc main_arg1) = vm m c main_arg1
      ∧ s.mem ((c : Thread nD τ).loc main_v13) = out (sm m) c) ∧ s.sem (barCell c) = 0)
    (hfin := fun c s' => by
      dsimp only [final]
      iintro ⟨⟨H0, H1, H13, Hb⟩, HSI⟩
      icombine HSI H0 gives %h0
      icombine HSI H1 gives %h1
      icombine HSI H13 gives %h13
      icombine HSI Hb gives %hb
      imodintro
      isplitr
      · ipureintro
        exact ⟨⟨Buf.eq_of_forall_mem_univ h0, Buf.eq_of_forall_mem_univ h1, Buf.eq_of_forall_mem_univ h13⟩, by simpa using hb⟩
      iexact HSI)
    (hQ := fun s h hs => ⟨fun c => by
        obtain ⟨⟨h0, h1, h13⟩, -⟩ := h c
        exact ⟨h0.trans (vm_arg0 m c), h1.trans (vm_arg1 m c), h13⟩,
      sem_eq_zero hs fun c s' hs' => by
        obtain rfl := bar_only s' hs'
        exact (h c).2⟩)

end Cert.Cross

end

end
-- ==== Proof.Frames.lean ====
/-
  The three programs end, with their arguments unchanged and their counters zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.PureOps.BitExact
public import Idealize.ShloMosaic.PureOps.Ideal
public import Idealize.ShloMosaic.Lib.Pipeline.Regions
public import Idealize.ShloMosaic.Lib.Quiescent

@[expose] public section

noncomputable section

namespace Cert.Cross

open Idealize.ShloMosaic Idealize.SL.Sem

/-- The program as printed, on bit patterns, is the same text. -/
theorem same_text : Cert.quiescent_Kernel = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by chain_rfl

/-- The program as printed, on bit patterns. -/
theorem frame_kernel : Cert.quiescent_Kernel := by
  rw [same_text]
  exact fun m ρ _ => (θ_run Cert.KernelIdeal.defs _ _).mono (fun _ h => ⟨fun c => ⟨(h.1 c).1, (h.1 c).2.1⟩, h.2⟩) (run_main (F := Bits) m ρ)

/-- The same program on extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference leaves its two arguments as they were, and has no semaphores. -/
theorem frame_ref : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

end Cert.Cross

end
-- ==== Proof.Algebra.lean ====
/-
  The whole program against the reference over the extended reals.
-/
module

public import proofs.«01_k».proof.Proof.Whole
public import proofs.«01_k».proof.Proof.Frames

@[expose] public section

set_option maxRecDepth 16384

noncomputable section

namespace Cert.Cross

open Cert.KernelIdeal Cert.KernelIdeal.Gen
open Idealize.ShloMosaic Idealize.SL.Sem

/-- A device's place along the first mesh axis; along none. -/
theorem lin_row : ∀ c : Dev nD, Layout.meshLin [2, 2] c.val [0] = c.val / 2 := by decide
theorem lin_col : ∀ c : Dev nD, Layout.meshLin [2, 2] c.val [] = 0 := by decide

/-- The reference's product at an entry: the sum over all rows. -/
theorem ref_at (A : (⟨2, ![8192, 4096]⟩ : Shape).Idx → EReal) (B : (⟨2, ![8192, 8192]⟩ : Shape).Idx → EReal) (i : (⟨2, ![4096, 8192]⟩ : Shape).Idx) :
    Host.dotGeneral (F := Ideal) (φ₁ := .f32) (φ₂ := .f32) Cert.ReferenceIdeal.dot_S4096x8192_S8192x8192_S4096x8192_1_0_0_1_n_n none
      (transpose Cert.ReferenceIdeal.S4096x8192 [1, 0] A Cert.ReferenceIdeal.Gen.transposes_S8192x4096_S4096x8192_1_0) B i
      = ∑ k ∈ Finset.range 8192, rd A k (i 0).val * rd B k (i 1).val := by
  rw [← Fin.sum_univ_eq_sum_range (fun k => rd A k (i 0).val * rd B k (i 1).val)]
  simp only [pointwise]
  rw [zero_add]
  exact Finset.sum_congr rfl fun k _ => congrArg₂ (· * ·) (rd_at A (ix2 k (i 0)) rfl rfl) (rd_at B (ix2 k (i 1)) rfl rfl)

/-- What the devices hold of the two whole arrays, from the blocks they are given. -/
theorem holds_of (A : (⟨2, ![8192, 4096]⟩ : Shape).Idx → EReal) (B : (⟨2, ![8192, 8192]⟩ : Shape).Idx → EReal) (V : Mem Ideal)
    (h : ∀ c : Dev nD, V c main_arg0 = Layout.blockN ⟨2, ![4096, 4096]⟩ ⟨2, ![8192, 4096]⟩ (Layout.meshBlock [2, 2] ![[0], []] c) A
      ∧ V c main_arg1 = Layout.blockN ⟨2, ![4096, 8192]⟩ ⟨2, ![8192, 8192]⟩ (Layout.meshBlock [2, 2] ![[0], []] c) B) : Holds A B V where
  fst c p q hp hq := by
    rw [(h c).1]
    refine (rd_at _ (ix2 ⟨p, hp⟩ ⟨q, hq⟩) rfl rfl).symm.trans (rd_at A _ ?_ ?_)
    · rw [Layout.TilesN.idx_val]
      show Layout.meshLin [2, 2] c.val [0] * 4096 + p = _
      rw [lin_row c]
    · rw [Layout.TilesN.idx_val]
      show Layout.meshLin [2, 2] c.val [] * 4096 + q = _
      rw [lin_col c, Nat.zero_mul, Nat.zero_add]
  snd c p q hp hq := by
    rw [(h c).2]
    refine (rd_at _ (ix2 ⟨p, hp⟩ ⟨q, hq⟩) rfl rfl).symm.trans (rd_at B _ ?_ ?_)
    · rw [Layout.TilesN.idx_val]
      show Layout.meshLin [2, 2] c.val [0] * 4096 + p = _
      rw [lin_row c]
    · rw [Layout.TilesN.idx_val]
      show Layout.meshLin [2, 2] c.val [] * 8192 + q = _
      rw [lin_col c, Nat.zero_mul, Nat.zero_add]

/-- Over the extended reals every device ends with its block of the reference's result. -/
theorem algebraic : Cert.algebraic_KernelIdeal_ReferenceIdeal := by
  intro m g m' g' _ hin
  refine ⟨_, (θ_run _ _ _).mono (fun r h c => ⟨?_, (h.1 c).1, (h.1 c).2.1⟩) (run_main (F := Ideal) m g),
    (θ_run _ _ _).mono (fun r h => h 0) (Cert.ReferenceIdeal.Value.run (F := Ideal) m' g')⟩
  refine (h.1 c).2.2.trans (funext fun i => ?_)
  have H := holds_of _ _ (vm m) fun c => ⟨(vm_arg0 m c).trans (hin c).1, (vm_arg1 m c).trans (hin c).2⟩
  refine (out_rd H c i).trans (Eq.trans ?_ (ref_at _ _ _).symm)
  unfold whole
  have e0 : ((Layout.TilesN.idx (S := ⟨2, ![2048, 8192]⟩) (T := ⟨2, ![4096, 8192]⟩) (by decide) (Layout.meshBlock [2, 2] ![[0], []] c) i) 0).val = c.val / 2 * 2048 + (i 0).val := by
    rw [Layout.TilesN.idx_val]
    show Layout.meshLin [2, 2] c.val [0] * 2048 + (i 0).val = _
    rw [lin_row c]
  have e1 : ((Layout.TilesN.idx (S := ⟨2, ![2048, 8192]⟩) (T := ⟨2, ![4096, 8192]⟩) (by decide) (Layout.meshBlock [2, 2] ![[0], []] c) i) 1).val = (i 1).val := by
    rw [Layout.TilesN.idx_val]
    show Layout.meshLin [2, 2] c.val [] * 8192 + (i 1).val = _
    rw [lin_col c, Nat.zero_mul, Nat.zero_add]
  rw [e0, e1]

end Cert.Cross

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Cross.frame_kernel,
  Cert.Cross.frame_ideal, Cert.Cross.frame_ref, trivial, Cert.Cross.algebraic⟩

end Cert.Proof

end
